-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d_model" .f32 0x3A638E39#32 ((1152⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1024x1152 : Shape := ⟨3, ![24, 1024, 1152]⟩
abbrev S24x1152 : Shape := ⟨2, ![24, 1152]⟩
abbrev S24x4608 : Shape := ⟨2, ![24, 4608]⟩
abbrev S24x1024x4608 : Shape := ⟨3, ![24, 1024, 4608]⟩
abbrev S1152x4608 : Shape := ⟨2, ![1152, 4608]⟩
abbrev S4608 : Shape := ⟨1, ![4608]⟩
abbrev S24576x1152 : Shape := ⟨2, ![24576, 1152]⟩
abbrev S24x1x1152 : Shape := ⟨3, ![24, 1, 1152]⟩
abbrev S24x1x4608 : Shape := ⟨3, ![24, 1, 4608]⟩
abbrev S24576x4608 : Shape := ⟨2, ![24576, 4608]⟩
abbrev S1x4608 : Shape := ⟨2, ![1, 4608]⟩
abbrev S48x4x128 : Shape := ⟨3, ![48, 4, 128]⟩
abbrev S512x1152 : Shape := ⟨2, ![512, 1152]⟩
abbrev S1x1x1152 : Shape := ⟨3, ![1, 1, 1152]⟩
abbrev S1x1x4608 : Shape := ⟨3, ![1, 1, 4608]⟩
abbrev S512x4608 : Shape := ⟨2, ![512, 4608]⟩
abbrev S1x4x128 : Shape := ⟨3, ![1, 4, 128]⟩
abbrev S512x128 : Shape := ⟨2, ![512, 128]⟩
abbrev S1x1152 : Shape := ⟨2, ![1, 1152]⟩
abbrev S256x1152 : Shape := ⟨2, ![256, 1152]⟩
abbrev S256 : Shape := ⟨1, ![256]⟩
abbrev S256x1 : Shape := ⟨2, ![256, 1]⟩
abbrev S256x128 : Shape := ⟨2, ![256, 128]⟩
abbrev S2x128 : Shape := ⟨2, ![2, 128]⟩
abbrev S1x2x128 : Shape := ⟨3, ![1, 2, 128]⟩
abbrev S1152x512 : Shape := ⟨2, ![1152, 512]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 20
  | .vmem => 24
  | .smem => 0
  | _ => 0

abbrev bufTy : (tb : Table) → Fin (tcTables nBuf tb) → BufTy
  | .hbm, ⟨0, _⟩ => ⟨S24x1024x1152, .bf16⟩
  | .hbm, ⟨1, _⟩ => ⟨S24x1152, .bf16⟩
  | .hbm, ⟨2, _⟩ => ⟨S24x1152, .bf16⟩
  | .hbm, ⟨3, _⟩ => ⟨S24x4608, .bf16⟩
  | .hbm, ⟨4, _⟩ => ⟨S24x1024x4608, .bf16⟩
  | .hbm, ⟨5, _⟩ => ⟨S1152x4608, .fp8e4m3⟩
  | .hbm, ⟨6, _⟩ => ⟨S4608, .f32⟩
  | .hbm, ⟨7, _⟩ => ⟨S4608, .bf16⟩
  | .hbm, ⟨8, _⟩ => ⟨S24576x1152, .bf16⟩
  | .hbm, ⟨9, _⟩ => ⟨S24x1x1152, .bf16⟩
  | .hbm, ⟨10, _⟩ => ⟨S24x1x1152, .bf16⟩
  | .hbm, ⟨11, _⟩ => ⟨S24x1x4608, .bf16⟩
  | .hbm, ⟨12, _⟩ => ⟨S24576x4608, .bf16⟩
  | .hbm, ⟨13, _⟩ => ⟨S1x4608, .f32⟩
  | .hbm, ⟨14, _⟩ => ⟨S1x4608, .bf16⟩
  | .hbm, ⟨15, _⟩ => ⟨S24576x4608, .bf16⟩
  | .hbm, ⟨16, _⟩ => ⟨S24576x1152, .fp8e4m3⟩
  | .hbm, ⟨17, _⟩ => ⟨S48x4x128, .f32⟩
  | .hbm, ⟨18, _⟩ => ⟨S24576x4608, .fp8e4m3⟩
  | .hbm, ⟨19, _⟩ => ⟨S48x4x128, .f32⟩
  | .local _ .vmem, ⟨0, _⟩ => ⟨S512x1152, .bf16⟩
  | .local _ .vmem, ⟨1, _⟩ => ⟨S512x1152, .bf16⟩
  | .local _ .vmem, ⟨2, _⟩ => ⟨S1x1x1152, .bf16⟩
  | .local _ .vmem, ⟨3, _⟩ => ⟨S1x1x1152, .bf16⟩
  | .local _ .vmem, ⟨4, _⟩ => ⟨S1x1x1152, .bf16⟩
  | .local _ .vmem, ⟨5, _⟩ => ⟨S1x1x1152, .bf16⟩
  | .local _ .vmem, ⟨6, _⟩ => ⟨S1x1x4608, .bf16⟩
  | .local _ .vmem, ⟨7, _⟩ => ⟨S1x1x4608, .bf16⟩
  | .local _ .vmem, ⟨8, _⟩ => ⟨S512x4608, .bf16⟩
  | .local _ .vmem, ⟨9, _⟩ => ⟨S512x4608, .bf16⟩
  | .local _ .vmem, ⟨10, _⟩ => ⟨S1152x4608, .fp8e4m3⟩
  | .local _ .vmem, ⟨11, _⟩ => ⟨S1x4608, .f32⟩
  | .local _ .vmem, ⟨12, _⟩ => ⟨S1x4608, .bf16⟩
  | .local _ .vmem, ⟨13, _⟩ => ⟨S512x4608, .bf16⟩
  | .local _ .vmem, ⟨14, _⟩ => ⟨S512x4608, .bf16⟩
  | .local _ .vmem, ⟨15, _⟩ => ⟨S512x1152, .fp8e4m3⟩
  | .local _ .vmem, ⟨16, _⟩ => ⟨S512x1152, .fp8e4m3⟩
  | .local _ .vmem, ⟨17, _⟩ => ⟨S1x4x128, .f32⟩
  | .local _ .vmem, ⟨18, _⟩ => ⟨S1x4x128, .f32⟩
  | .local _ .vmem, ⟨19, _⟩ => ⟨S512x4608, .fp8e4m3⟩
  | .local _ .vmem, ⟨20, _⟩ => ⟨S512x4608, .fp8e4m3⟩
  | .local _ .vmem, ⟨21, _⟩ => ⟨S1x4x128, .f32⟩
  | .local _ .vmem, ⟨22, _⟩ => ⟨S1x4x128, .f32⟩
  | .local _ .vmem, ⟨23, _⟩ => ⟨S512x128, .f32⟩
  | _, _ => ⟨S24x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4608 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1152x4608 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4608 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x4608 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1152 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4608 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "inv_d_model" => some ((1152⁻¹ : ℝ) : EReal)
  | _ => none
-- ==== ReferenceIdeal.lean ====
abbrev S24x1024x1152 : Shape := ⟨3, ![24, 1024, 1152]⟩
abbrev S24x1152 : Shape := ⟨2, ![24, 1152]⟩
abbrev S24x4608 : Shape := ⟨2, ![24, 4608]⟩
abbrev S24x1024x4608 : Shape := ⟨3, ![24, 1024, 4608]⟩
abbrev S1152x4608 : Shape := ⟨2, ![1152, 4608]⟩
abbrev S4608 : Shape := ⟨1, ![4608]⟩
abbrev S24576x4608 : Shape := ⟨2, ![24576, 4608]⟩
abbrev S24576x1152 : Shape := ⟨2, ![24576, 1152]⟩
abbrev S48x4x128 : Shape := ⟨3, ![48, 4, 128]⟩
abbrev S24x1024 : Shape := ⟨2, ![24, 1024]⟩
abbrev S24x1024x1 : Shape := ⟨3, ![24, 1024, 1]⟩
abbrev S24x1x1152 : Shape := ⟨3, ![24, 1, 1152]⟩
abbrev S1x1x4608 : Shape := ⟨3, ![1, 1, 4608]⟩
abbrev S24x1x4608 : Shape := ⟨3, ![24, 1, 4608]⟩

abbrev nBuf : Space → Nat
  | .hbm => 13
  | .vmem => 13
  | .smem => 0
  | _ => 0

abbrev bufTy : (tb : Table) → Fin (tcTables nBuf tb) → BufTy
  | .hbm, ⟨0, _⟩ => ⟨S24x1024x1152, .bf16⟩
  | .hbm, ⟨1, _⟩ => ⟨S24x1152, .bf16⟩
  | .hbm, ⟨2, _⟩ => ⟨S24x1152, .bf16⟩
  | .hbm, ⟨3, _⟩ => ⟨S24x4608, .bf16⟩
  | .hbm, ⟨4, _⟩ => ⟨S24x1024x4608, .bf16⟩
  | .hbm, ⟨5, _⟩ => ⟨S1152x4608, .fp8e4m3⟩
  | .hbm, ⟨6, _⟩ => ⟨S4608, .f32⟩
  | .hbm, ⟨7, _⟩ => ⟨S4608, .bf16⟩
  | .hbm, ⟨8, _⟩ => ⟨S24576x4608, .bf16⟩
  | .hbm, ⟨9, _⟩ => ⟨S24576x1152, .fp8e4m3⟩
  | .hbm, ⟨10, _⟩ => ⟨S48x4x128, .f32⟩
  | .hbm, ⟨11, _⟩ => ⟨S24576x4608, .fp8e4m3⟩
  | .hbm, ⟨12, _⟩ => ⟨S48x4x128, .f32⟩
  | .local _ .vmem, ⟨0, _⟩ => ⟨S24x1024x1152, .bf16⟩
  | .local _ .vmem, ⟨1, _⟩ => ⟨S24x1152, .bf16⟩
  | .local _ .vmem, ⟨2, _⟩ => ⟨S24x1152, .bf16⟩
  | .local _ .vmem, ⟨3, _⟩ => ⟨S24x4608, .bf16⟩
  | .local _ .vmem, ⟨4, _⟩ => ⟨S24x1024x4608, .bf16⟩
  | .local _ .vmem, ⟨5, _⟩ => ⟨S1152x4608, .fp8e4m3⟩
  | .local _ .vmem, ⟨6, _⟩ => ⟨S4608, .f32⟩
  | .local _ .vmem, ⟨7, _⟩ => ⟨S4608, .bf16⟩
  | .local _ .vmem, ⟨8, _⟩ => ⟨S24576x4608, .bf16⟩
  | .local _ .vmem, ⟨9, _⟩ => ⟨S24576x1152, .fp8e4m3⟩
  | .local _ .vmem, ⟨10, _⟩ => ⟨S48x4x128, .f32⟩
  | .local _ .vmem, ⟨11, _⟩ => ⟨S24576x4608, .fp8e4m3⟩
  | .local _ .vmem, ⟨12, _⟩ => ⟨S48x4x128, .f32⟩
  | _, _ => ⟨S24x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S24x1024x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1152 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024x4608 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1152x4608 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x4608 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x1152 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S48x4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24576x4608 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S48x4x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Pow2.lean ====
/- The power-of-two scale of the fp8 quantiser, over the extended reals. The kernel finds the exponent field of `a`
   (the greatest `p` in 0 … 255 whose power `pow2 p` is at most `a`) one bit at a time and builds the scale and its
   inverse from that field; the reference takes `⌊log₂ a⌋ + 1`. `scale_eq` and `inverse_eq` say the two agree at every
   `a ≥ 0`. -/
module

public import Idealize.ShloMosaic.Lib.ValueIdx

@[expose] public section

set_option maxRecDepth 16384

noncomputable section

namespace Cert.Pow2

open Idealize.ShloMosaic

/-! ## What a bit pattern with an empty fraction denotes -/

/-- The word whose exponent field is `n` and whose other bits are zero. -/
def word (n : ℕ) : BitVec 32 := BitVec.ofNat 32 (n * 8388608)

/-- The extended real that word denotes as an f32. -/
def pow2 (n : ℕ) : EReal := Ideal.ofBits .f32 (word n)

theorem word_add (p k : ℕ) : word p + word k = word (p + k) := by
  unfold word; rw [← BitVec.ofNat_add, ← Nat.add_mul]

theorem word_toNat {n : ℕ} (h : n ≤ 255) : (word n).toNat = n * 8388608 := by
  unfold word; rw [BitVec.toNat_ofNat]; omega

theorem pow2_eq {n : ℕ} (h : n ≤ 255) : pow2 n =
    if n = 255 then ⊤ else if n = 0 then 0 else (((2 : ℝ) ^ ((n : ℤ) - 127) : ℝ) : EReal) := by
  have hn := word_toNat h
  have h1 : ((word n).extractLsb' 31 1 == 1#1) = false := by
    have : (word n).extractLsb' 31 1 = 0#1 := by
      apply BitVec.eq_of_toNat_eq
      rw [BitVec.extractLsb'_toNat, hn, Nat.shiftRight_eq_div_pow]
      simp; omega
    rw [this]; rfl
  have h2 : ((word n).extractLsb' 23 8).toNat = n := by
    rw [BitVec.extractLsb'_toNat, hn, Nat.shiftRight_eq_div_pow]; omega
  have h3 : ((word n).extractLsb' 0 23).toNat = 0 := by
    rw [BitVec.extractLsb'_toNat, hn, Nat.shiftRight_eq_div_pow]; omega
  show Ideal.ieee 8 23 (word n) = _
  unfold Ideal.ieee
  simp only [show 8 + 23 = 31 from rfl, h1, h2, h3]
  by_cases h255 : n = 255
  · subst h255; simp
  · by_cases h0 : n = 0
    · subst h0; simp
    · simp only [h255, h0, if_false, show ¬ (n = 2 ^ 8 - 1) from by simpa using h255]
      congr 1
      rw [show ((2 : ℕ) ^ 23 + 0 : ℕ) = 2 ^ 23 from rfl]
      have : (2 : ℝ) ^ ((n : ℤ) - 127) = 2 ^ (23 : ℕ) * (2 : ℝ) ^ ((n : ℤ) - (2 ^ (8 - 1) - 1) - (23 : ℕ)) := by
        rw [← zpow_natCast (2 : ℝ) 23, ← zpow_add₀ (by norm_num)]; congr 1; norm_num
      rw [this]; push_cast; norm_num

theorem pow2_zero : pow2 0 = 0 := by rw [pow2_eq (by norm_num)]; simp

theorem pow2_top : pow2 255 = ⊤ := by rw [pow2_eq (by norm_num)]; simp

theorem pow2_mid {n : ℕ} (h1 : 1 ≤ n) (h2 : n ≤ 254) : pow2 n = (((2 : ℝ) ^ ((n : ℤ) - 127) : ℝ) : EReal) := by
  rw [pow2_eq (by omega), if_neg (by omega), if_neg (by omega)]

/-! ## The field, one bit at a time -/

/-- One step of the search on field numbers: add `k` unless that passes `a`. -/
def step (a : EReal) (p k : ℕ) : ℕ := if a < pow2 (p + k) then p else p + k

/-- The same step as the kernel takes it, on words. -/
def stepW (a : EReal) (f b : BitVec 32) : BitVec 32 :=
  Scalar.select (Ideal.cmp .olt a (Ideal.ofBits .f32 (f + b))) f (f + b)

theorem stepW_word (a : EReal) (p k : ℕ) : stepW a (word p) (word k) = word (step a p k) := by
  unfold stepW step Scalar.select
  rw [word_add]
  show (if Ideal.cmp .olt a (pow2 (p + k)) = 1 then _ else _) = _
  by_cases h : a < pow2 (p + k)
  · simp [Ideal.cmp, h]
  · simp [Ideal.cmp, h]

/-- What the search keeps: the field found so far is a lower bound, and the next candidate is above `a`. -/
def Found (a : EReal) (p k : ℕ) : Prop := pow2 p ≤ a ∧ (a < pow2 (p + k) ∨ p + k = 256)

theorem found_step {a : EReal} {p k : ℕ} (h : Found a p (k + k)) : Found a (step a p k) k := by
  unfold step
  split_ifs with hlt
  · exact ⟨h.1, .inl hlt⟩
  · refine ⟨not_lt.mp hlt, ?_⟩
    rw [Nat.add_assoc]; exact h.2

/-- The field number the eight steps end with. -/
def field (a : EReal) : ℕ :=
  step a (step a (step a (step a (step a (step a (step a (step a 0 128) 64) 32) 16) 8) 4) 2) 1

theorem found_field {a : EReal} (ha : 0 ≤ a) : Found a (field a) 1 := by
  have h0 : Found a 0 (128 + 128) := ⟨by rw [pow2_zero]; exact ha, .inr rfl⟩
  exact found_step (found_step (found_step (found_step (found_step (found_step (found_step (found_step h0)))))))

theorem field_le (a : EReal) : field a ≤ 255 := by
  have h : ∀ p k, step a p k ≤ p + k := fun p k => by unfold step; split_ifs <;> omega
  unfold field
  refine (h _ _).trans ?_
  have h1 := h 0 128
  have h2 := h (step a 0 128) 64
  have h3 := h (step a (step a 0 128) 64) 32
  have h4 := h (step a (step a (step a 0 128) 64) 32) 16
  have h5 := h (step a (step a (step a (step a 0 128) 64) 32) 16) 8
  have h6 := h (step a (step a (step a (step a (step a 0 128) 64) 32) 16) 8) 4
  have h7 := h (step a (step a (step a (step a (step a (step a 0 128) 64) 32) 16) 8) 4) 2
  omega

/-- The kernel's field word: the eight steps from zero, then the cap at 252. -/
def fieldW (a : EReal) : BitVec 32 :=
  stepW a (stepW a (stepW a (stepW a (stepW a (stepW a (stepW a (stepW a 0#32 1073741824#32) 536870912#32) 268435456#32)
    134217728#32) 67108864#32) 33554432#32) 16777216#32) 8388608#32

def capW (a : EReal) (f : BitVec 32) : BitVec 32 :=
  Scalar.select (Ideal.cmp .oeq (a * Ideal.ofBits .f32 0x00000000#32) (Ideal.ofBits .f32 0x00000000#32))
    (IntOp.minsi f 2113929216#32) f

/-- The kernel's scale: two to the field less 126, or one where the field is zero. -/
def scaleW (a : EReal) : EReal :=
  Scalar.select (IntOp.cmpi .ne (capW a (fieldW a)) 0#32) (Ideal.ofBits .f32 (capW a (fieldW a) + 8388608#32))
    (Ideal.ofBits .f32 0x3F800000#32)

/-- The kernel's inverse scale. -/
def inverseW (a : EReal) : EReal :=
  Scalar.select (IntOp.cmpi .ne (capW a (fieldW a)) 0#32) (Ideal.ofBits .f32 (2122317824#32 - capW a (fieldW a)))
    (Ideal.ofBits .f32 0x3F800000#32)

theorem fieldW_eq (a : EReal) : fieldW a = word (field a) := by
  unfold fieldW field
  rw [show (0#32) = word 0 from rfl, show (1073741824#32) = word 128 from rfl, show (536870912#32) = word 64 from rfl,
    show (268435456#32) = word 32 from rfl, show (134217728#32) = word 16 from rfl, show (67108864#32) = word 8 from rfl,
    show (33554432#32) = word 4 from rfl, show (16777216#32) = word 2 from rfl, show (8388608#32) = word 1 from rfl]
  simp only [stepW_word]

/-- The f32 zero pattern. -/
theorem zero_eq : Ideal.ofBits .f32 0x00000000#32 = 0 := pow2_zero

/-- The f32 one pattern. -/
theorem one_eq : Ideal.ofBits .f32 0x3F800000#32 = 1 := by
  have : pow2 127 = 1 := by rw [pow2_mid (by norm_num) (by norm_num)]; norm_num
  exact this

theorem capW_eq (a : EReal) : capW a (fieldW a) = word (min (field a) 252) := by
  have hle := field_le a
  unfold capW Scalar.select
  rw [zero_eq, mul_zero, if_pos (by simp [Ideal.cmp]), fieldW_eq]
  unfold IntOp.minsi
  rw [show (2113929216#32) = word 252 from rfl]
  have hs : (word (field a)).slt (word 252) = decide (field a < 252) := by
    rw [BitVec.slt_eq_decide]
    congr 1
    rw [BitVec.toInt_eq_toNat_of_lt (by rw [word_toNat hle]; omega),
      BitVec.toInt_eq_toNat_of_lt (by rw [word_toNat (by norm_num)]; norm_num), word_toNat hle, word_toNat (by norm_num)]
    apply propext; constructor <;> intro h <;> omega
  rw [hs]
  by_cases h : field a < 252
  · rw [if_pos (by simpa using h), min_eq_left h.le]
  · rw [if_neg (by simpa using h), min_eq_right (not_lt.mp h)]

theorem cap_ne (a : EReal) : IntOp.cmpi .ne (capW a (fieldW a)) 0#32 = BitVec.ofBool (decide (field a ≠ 0)) := by
  have hle := field_le a
  rw [capW_eq]
  have hw : word (min (field a) 252) = 0#32 ↔ field a = 0 := by
    rw [← BitVec.toNat_inj, word_toNat (by omega)]; simp
  unfold IntOp.cmpi
  by_cases h : field a = 0
  · simp [h, word]
  · have h' : ¬ word (min (field a) 252) = 0#32 := fun e => h (hw.mp e)
    simp [h, bne, beq_eq_false_iff_ne.mpr h']

theorem scaleW_eq (a : EReal) : scaleW a = if field a = 0 then 1 else pow2 (min (field a) 252 + 1) := by
  unfold scaleW Scalar.select
  rw [cap_ne, capW_eq, show (8388608#32) = word 1 from rfl, word_add, one_eq]
  by_cases h : field a = 0
  · simp [h]
  · simp [h, pow2]

theorem inverseW_eq (a : EReal) : inverseW a = if field a = 0 then 1 else pow2 (253 - min (field a) 252) := by
  have hsub : ∀ p, p ≤ 252 → (2122317824#32) - word p = word (253 - p) := fun p hp => by
    rw [show (2122317824#32) = word 253 from rfl, ← show word (253 - p) + word p = word 253 from by
      rw [word_add]; congr 1; omega]
    exact BitVec.add_sub_cancel _ _
  unfold inverseW Scalar.select
  rw [cap_ne, capW_eq, hsub _ (min_le_right _ _), one_eq]
  by_cases h : field a = 0
  · simp [h]
  · simp [h, pow2]

/-! ## The reference's exponent -/

/-- The reference's exponent of `a`: zero below the least normal number, else `⌊log₂ a⌋ + 1`, at most 126. -/
def expo (a : EReal) : EReal :=
  Scalar.select (Ideal.cmp .olt a (Ideal.ofBits .f32 0x00800000#32)) (Ideal.ofBits .f32 0x00000000#32)
    (min (Ideal.liftRound Int.floor (Ideal.div (Ideal.log a) (Ideal.log (Ideal.ofBits .f32 0x40000000#32)))
      + Ideal.ofBits .f32 0x3F800000#32) (Ideal.ofBits .f32 0x42FC0000#32))

/-- The reference's exponent, its choice as a case split. -/
theorem expo_if (a : EReal) : expo a = if a < Ideal.ofBits .f32 0x00800000#32 then 0 else
    min (Ideal.liftRound Int.floor (Ideal.div (Ideal.log a) (Ideal.log (Ideal.ofBits .f32 0x40000000#32))) + 1)
      (Ideal.ofBits .f32 0x42FC0000#32) := by
  unfold expo Scalar.select
  rw [zero_eq, one_eq]
  by_cases h : a < Ideal.ofBits .f32 0x00800000#32 <;> simp [Ideal.cmp, h]

/-- The reference's scale. -/
def scaleR (a : EReal) : EReal := Ideal.exp2 (expo a)

/-- The reference's inverse scale. -/
def inverseR (a : EReal) : EReal := Ideal.exp2 (Ideal.ofBits .f32 0x00000000#32 - expo a)

theorem two_eq : Ideal.ofBits .f32 0x40000000#32 = ((2 : ℝ) : EReal) := by
  have : pow2 128 = ((2 : ℝ) : EReal) := by rw [pow2_mid (by norm_num) (by norm_num)]; norm_num
  exact this

theorem cap_eq : Ideal.ofBits .f32 0x42FC0000#32 = ((126 : ℝ) : EReal) := by
  show Ideal.ieee (w := 32) 8 23 0x42FC0000#32 = _
  unfold Ideal.ieee
  have h1 : ((0x42FC0000#32 : BitVec 32).extractLsb' (8 + 23) 1 == 1#1) = false := by decide
  have h2 : ((0x42FC0000#32 : BitVec 32).extractLsb' 23 8).toNat = 133 := by decide
  have h3 : ((0x42FC0000#32 : BitVec 32).extractLsb' 0 23).toNat = 8126464 := by decide
  simp only [h1, h2, h3]
  norm_num

theorem logTwo : Ideal.log (Ideal.ofBits .f32 0x40000000#32) = ((Real.log 2 : ℝ) : EReal) := by
  rw [two_eq]
  show (if (2 : ℝ) ≤ 0 then (⊥ : EReal) else ((Real.log 2 : ℝ) : EReal)) = _
  rw [if_neg (by norm_num)]

theorem logTwo_ne : ((Real.log 2 : ℝ) : EReal) ≠ 0 := by
  have := Real.log_pos (by norm_num : (1 : ℝ) < 2)
  exact_mod_cast this.ne'

/-- `⌊log₂ r⌋` from the power of two below `r` (and the one above, where there is one). -/
theorem floor_log {r : ℝ} {n : ℤ} (h1 : (2 : ℝ) ^ n ≤ r) : n ≤ ⌊Real.log r / Real.log 2⌋ := by
  have hl := Real.log_pos (by norm_num : (1 : ℝ) < 2)
  rw [Int.le_floor, le_div_iff₀ hl, ← Real.log_zpow]
  exact Real.log_le_log (by positivity) h1

theorem floor_log_lt {r : ℝ} {n : ℤ} (h0 : 0 < r) (h1 : r < (2 : ℝ) ^ n) : ⌊Real.log r / Real.log 2⌋ < n := by
  have hl := Real.log_pos (by norm_num : (1 : ℝ) < 2)
  rw [Int.floor_lt, div_lt_iff₀ hl, ← Real.log_zpow]
  exact Real.log_lt_log h0 h1

/-- Where the field is not zero, the reference's exponent is the capped field less 126. -/
theorem expo_eq {a : EReal} (ha : 0 ≤ a) :
    expo a = if field a = 0 then 0 else (((min (field a) 252 : ℕ) - 126 : ℝ) : EReal) := by
  have hle := field_le a
  obtain ⟨hlo, hhi⟩ := found_field ha
  unfold expo Scalar.select
  have hcmp : (Ideal.cmp .olt a (Ideal.ofBits .f32 0x00800000#32) = 1) ↔ field a = 0 := by
    rw [show Ideal.ofBits .f32 0x00800000#32 = pow2 1 from rfl]
    have : (Ideal.cmp .olt a (pow2 1) = 1) ↔ a < pow2 1 := by
      by_cases h : a < pow2 1 <;> simp [Ideal.cmp, h]
    rw [this]
    constructor
    · intro h
      by_contra hne
      refine absurd (lt_of_le_of_lt hlo h) (not_lt.mpr ?_)
      by_cases h255 : field a = 255
      · rw [h255, pow2_top]; exact le_top
      · rw [pow2_mid (by norm_num) (by norm_num), pow2_mid (by omega) (by omega)]
        refine EReal.coe_le_coe_iff.mpr (zpow_le_zpow_right₀ (by norm_num) ?_)
        omega
    · intro h
      rw [h] at hhi
      rcases hhi with h' | h'
      · exact h'
      · omega
  by_cases h0 : field a = 0
  · rw [if_pos (hcmp.mpr h0), if_pos h0, zero_eq]
  rw [if_neg (fun h => h0 (hcmp.mp h)), if_neg h0, one_eq, cap_eq, logTwo]
  unfold Ideal.div
  rw [if_neg logTwo_ne]
  have hl := Real.log_pos (by norm_num : (1 : ℝ) < 2)
  induction a with
  | bot => exact absurd ha (by simp)
  | top =>
    have hf : field (⊤ : EReal) = 255 := by
      rcases hhi with h | h
      · exact absurd h not_top_lt
      · omega
    have e1 : Ideal.log ⊤ * ((Real.log 2 : ℝ) : EReal)⁻¹ = ⊤ := by
      rw [← EReal.coe_inv]; exact EReal.top_mul_coe_of_pos (by positivity)
    rw [e1, hf]
    show min ((⊤ : EReal) + 1) _ = _
    rw [show (⊤ : EReal) + 1 = ⊤ from rfl, min_eq_right le_top]
    norm_num
  | coe r =>
    have hne : field (r : EReal) ≠ 255 := by
      intro h
      rw [h, pow2_top] at hlo
      exact absurd hlo (by simp)
    rw [pow2_mid (by omega) (by omega)] at hlo
    have hlo' : (2 : ℝ) ^ ((field (r : EReal) : ℤ) - 127) ≤ r := by exact_mod_cast hlo
    have hr : 0 < r := lt_of_lt_of_le (by positivity) hlo'
    have e1 : Ideal.log (r : EReal) * ((Real.log 2 : ℝ) : EReal)⁻¹ = ((Real.log r / Real.log 2 : ℝ) : EReal) := by
      show (if r ≤ 0 then (⊥ : EReal) else ((Real.log r : ℝ) : EReal)) * _ = _
      rw [if_neg (not_le.mpr hr), ← EReal.coe_inv, ← EReal.coe_mul, div_eq_mul_inv]
    rw [e1]
    show min ((((⌊Real.log r / Real.log 2⌋ : ℤ) : ℝ) : EReal) + 1) _ = _
    have hfl := floor_log hlo'
    rw [← EReal.coe_one, ← EReal.coe_add, ← EReal.coe_strictMono.monotone.map_min]
    congr 1
    by_cases h253 : field (r : EReal) ≤ 252
    · rcases hhi with h | h
      · rw [pow2_mid (by omega) (by omega)] at h
        have h' : r < (2 : ℝ) ^ (((field (r : EReal) + 1 : ℕ) : ℤ) - 127) := by exact_mod_cast h
        have hlt := floor_log_lt hr h'
        have heq : ⌊Real.log r / Real.log 2⌋ = (field (r : EReal) : ℤ) - 127 := by push_cast at hlt; omega
        rw [heq, min_eq_left h253]
        push_cast
        rw [min_eq_left]
        · ring
        · have : (field (r : EReal) : ℝ) ≤ 252 := by exact_mod_cast h253
          linarith
      · omega
    · rw [min_eq_right (by omega : 252 ≤ field (r : EReal))]
      rw [min_eq_right]
      · norm_num
      · have : (126 : ℤ) ≤ ⌊Real.log r / Real.log 2⌋ := by omega
        have : (126 : ℝ) ≤ (⌊Real.log r / Real.log 2⌋ : ℤ) := by exact_mod_cast this
        linarith

theorem exp2_int (n : ℤ) : Ideal.exp2 (((n : ℤ) : ℝ) : EReal) = (((2 : ℝ) ^ n : ℝ) : EReal) := by
  show ((Real.rpow 2 ((n : ℤ) : ℝ) : ℝ) : EReal) = _
  congr 1
  exact Real.rpow_intCast 2 n

/-- The kernel's scale is the reference's. -/
theorem scale_eq {a : EReal} (ha : 0 ≤ a) : scaleW a = scaleR a := by
  have hle := field_le a
  unfold scaleR
  rw [scaleW_eq, expo_eq ha]
  by_cases h : field a = 0
  · simp only [if_pos h]
    have := exp2_int 0
    simpa using this.symm
  · simp only [if_neg h]
    rw [pow2_mid (by omega) (by omega)]
    have := exp2_int (((min (field a) 252 + 1 : ℕ) : ℤ) - 127)
    rw [← this]
    congr 2
    push_cast; ring

/-- The kernel's inverse scale is the reference's. -/
theorem inverse_eq {a : EReal} (ha : 0 ≤ a) : inverseW a = inverseR a := by
  have hle := field_le a
  unfold inverseR
  rw [inverseW_eq, expo_eq ha, zero_eq]
  by_cases h : field a = 0
  · simp only [if_pos h]
    have := exp2_int 0
    simpa using this.symm
  · simp only [if_neg h]
    rw [pow2_mid (by omega) (by omega)]
    have := exp2_int (((253 - min (field a) 252 : ℕ) : ℤ) - 127)
    rw [← this, zero_sub, ← EReal.coe_neg]
    congr 2
    rw [Nat.cast_sub (by omega)]
    push_cast; ring

end Cert.Pow2
-- ==== Proof.Row.lean ====
/-
  What one row of the problem comes to, on the extended reals: the normalised row, its quantisation to codes and one
  power-of-two scale, the linear layer over the codes with the gated residual, and the quantisation of the result.
  Written in the reference's order of operations. Two facts meet the kernel's way of computing the same: a sum times
  1/1152 is the mean, and a maximum taken lane by lane over nine chunks of four groups of 128 is the row's maximum.
-/
module

public import proofs.«01_k».proof.Proof.Pow2

@[expose] public section

set_option maxRecDepth 16384

noncomputable section

open Idealize.ShloMosaic

namespace Cert.Row

/-- The mean of a row of 1152. -/
def mean (v : Fin 1152 → EReal) : EReal := Ideal.div (∑ k, v k) (Ideal.ofBits .f32 0x44900000#32)

/-- The row less its mean. -/
def centred (x : Fin 1152 → EReal) (k : Fin 1152) : EReal := x k - mean x

/-- The row normalised, scaled by one plus `scale` and shifted. -/
def norm (x scale shift : Fin 1152 → EReal) (k : Fin 1152) : EReal :=
  centred x k * Ideal.rsqrt (mean (fun l => centred x l * centred x l) + Ideal.ofBits .f32 0x358637BD#32)
    * (1 + scale k) + shift k

/-- The magnitude of an entry. -/
def mag (v : EReal) : EReal := max v (-v)

/-- The row's largest magnitude over 448. -/
def peak {n : ℕ} (v : Fin n → EReal) : EReal :=
  (Finset.univ.fold max (Ideal.ofBits .f32 0xFF800000#32) fun k => mag (v k)) * Ideal.ofBits .f32 0x3B124925#32

/-- The code of `v` under the scale the peak `a` fixes: `v` over the scale, clipped to ±448. -/
def code (a v : EReal) : EReal :=
  min (Ideal.ofBits .f32 0x43E00000#32) (max (Ideal.ofBits .f32 0xC3E00000#32) (v * Pow2.inverseR a))

/-- One entry of the result: the codes times the weights, rescaled, biased, gated, added to the residual. -/
def lin (codes weights : Fin 1152 → EReal) (hs ws bias gate resid : EReal) : EReal :=
  resid + ((∑ k, codes k * weights k) * hs * ws + bias) * gate

/-- The data one row of the results depends on. -/
@[ext] structure Data where
  x : Fin 1152 → EReal
  shift : Fin 1152 → EReal
  scale : Fin 1152 → EReal
  gate : Fin 4608 → EReal
  resid : Fin 4608 → EReal
  w : Fin 1152 → Fin 4608 → EReal
  wscale : Fin 4608 → EReal
  bias : Fin 4608 → EReal

namespace Data

variable (d : Data)

/-- The normalised row. -/
def h : Fin 1152 → EReal := norm d.x d.scale d.shift
/-- The codes of the normalised row. -/
def hCode (k : Fin 1152) : EReal := code (peak d.h) (d.h k)
/-- The scale of the normalised row. -/
def hScale : EReal := Pow2.scaleR (peak d.h)
/-- The result row. -/
def y (n : Fin 4608) : EReal := lin d.hCode (fun k => d.w k n) d.hScale (d.wscale n) (d.bias n) (d.gate n) (d.resid n)
/-- The codes of the result row. -/
def yCode (n : Fin 4608) : EReal := code (peak d.y) (d.y n)
/-- The scale of the result row. -/
def yScale : EReal := Pow2.scaleR (peak d.y)

end Data

theorem mag_nonneg (v : EReal) : 0 ≤ mag v := by
  unfold mag
  rcases le_total 0 v with h | h
  · exact le_max_of_le_left h
  · exact le_max_of_le_right (EReal.neg_nonneg.2 h)

/-- A sum times 1/1152 is the mean. -/
theorem mean_eq (v : Fin 1152 → EReal) : (∑ k, v k) * ((1152⁻¹ : ℝ) : EReal) = mean v := by
  have h : Ideal.ofBits .f32 0x44900000#32 = ((1152 : ℝ) : EReal) := by
    simp [Ideal.ofBits, Ideal.ieee]; rw [← EReal.coe_mul]; norm_num
  have h0 : ((1152 : ℝ) : EReal) ≠ 0 := by
    intro h; exact absurd (EReal.coe_eq_zero.1 h) (by norm_num)
  rw [mean, h, Ideal.div, if_neg h0, EReal.coe_inv]

theorem peakc_nonneg : (0 : EReal) ≤ Ideal.ofBits .f32 0x3B124925#32 := by
  simp [Ideal.ofBits, Ideal.ieee]
  exact mul_nonneg (by norm_num) (by positivity)

theorem peak_nonneg {n : ℕ} [NeZero n] (v : Fin n → EReal) : 0 ≤ peak v := by
  refine mul_nonneg ?_ peakc_nonneg
  exact (mag_nonneg (v 0)).trans ((Finset.le_fold_max _).2 (.inr ⟨0, Finset.mem_univ _, le_rfl⟩))

/-- Column `j` of chunk `c`. -/
abbrev col (c : Fin 9) (j : Fin 512) : Fin 4608 := ⟨512 * c.val + j.val, by omega⟩

/-- Lane `l` of group `q` of a chunk. -/
abbrev lane (q : Fin 4) (l : Fin 128) : Fin 512 := ⟨128 * q.val + l.val, by omega⟩

/-- One chunk's step of the lane maximum. -/
def laneStep (u : Fin 512 → EReal) (l : Fin 128) (m : EReal) : EReal :=
  max (max (max (max m (u (lane 0 l))) (u (lane 1 l))) (u (lane 2 l))) (u (lane 3 l))

/-- The maximum of lane `l` over the nine chunks, from zero. -/
def laneMax (v : Fin 4608 → EReal) (l : Fin 128) : EReal :=
  laneStep (fun j => v (col 8 j)) l (laneStep (fun j => v (col 7 j)) l (laneStep (fun j => v (col 6 j)) l
    (laneStep (fun j => v (col 5 j)) l (laneStep (fun j => v (col 4 j)) l (laneStep (fun j => v (col 3 j)) l
    (laneStep (fun j => v (col 2 j)) l (laneStep (fun j => v (col 1 j)) l (laneStep (fun j => v (col 0 j)) l
      (Ideal.ofBits .f32 0x00000000#32)))))))))

theorem laneStep_le (u : Fin 512 → EReal) (l : Fin 128) (m b : EReal) :
    laneStep u l m ≤ b ↔ m ≤ b ∧ ∀ q, u (lane q l) ≤ b := by
  simp only [laneStep, max_le_iff, and_assoc]
  constructor
  · rintro ⟨h, h0, h1, h2, h3⟩
    exact ⟨h, fun q => by fin_cases q <;> assumption⟩
  · rintro ⟨h, hq⟩
    exact ⟨h, hq 0, hq 1, hq 2, hq 3⟩

theorem laneMax_le (v : Fin 4608 → EReal) (l : Fin 128) (b : EReal) :
    laneMax v l ≤ b ↔ 0 ≤ b ∧ ∀ c q, v (col c (lane q l)) ≤ b := by
  simp only [laneMax, laneStep_le, Pow2.zero_eq, and_assoc]
  constructor
  · rintro ⟨h, h0, h1, h2, h3, h4, h5, h6, h7, h8⟩
    refine ⟨h, fun c => ?_⟩
    fin_cases c <;> assumption
  · rintro ⟨h, hc⟩
    exact ⟨h, hc 0, hc 1, hc 2, hc 3, hc 4, hc 5, hc 6, hc 7, hc 8⟩

/-- The lane maxima's maximum, over 448, is the row's peak. -/
theorem peak_lanes (v : Fin 4608 → EReal) :
    (Finset.univ.fold max (Ideal.ofBits .f32 0xFF800000#32) fun l => laneMax (fun n => mag (v n)) l)
      * Ideal.ofBits .f32 0x3B124925#32 = peak v := by
  unfold peak
  congr 1
  refine eq_of_forall_ge_iff fun b => ?_
  rw [Finset.fold_max_le, Finset.fold_max_le]
  refine and_congr_right fun _ => ⟨fun h n _ => ?_, fun h l _ => ?_⟩
  · have e : n = col ⟨n.val / 512, by omega⟩ (lane ⟨n.val % 512 / 128, by omega⟩ ⟨n.val % 128, by omega⟩) :=
      Fin.ext (by show _ = 512 * (n.val / 512) + (128 * (n.val % 512 / 128) + n.val % 128); omega)
    rw [e]
    exact ((laneMax_le _ _ _).1 (h ⟨n.val % 128, by omega⟩ (Finset.mem_univ _))).2 _ _
  · exact (laneMax_le _ _ _).2 ⟨(mag_nonneg _).trans (h 0 (Finset.mem_univ _)), fun c q => h _ (Finset.mem_univ _)⟩

end Cert.Row
-- ==== Proof.Stage.lean ====
/-
  The kernel's arithmetic on one half of a block (256 rows), read at an index: each value the kernel stores is the
  row's value of Proof/Row.lean. The printed program cuts the same computation at different places in different
  chunks; the equations by `rfl` say so, and the meaning is then worked out once.
-/
module

public import proofs.«01_k».proof.Proof.Gen.KernelIdeal.Value
public import proofs.«01_k».proof.Proof.Row
public import Idealize.ShloMosaic.Lib.Pointwise

@[expose] public section

set_option maxRecDepth 16384

noncomputable section

open Idealize.ShloMosaic Cert.KernelIdeal Cert.KernelIdeal.Gen

namespace Cert.Stage

/-! ## The exponent field and the scale -/

/-- One bit of the search for the exponent field, a whole column at a time. -/
def stepV (a : FVec Ideal S256x1 .f32) (f : IVec S256x1 32) (b : BitVec 32) : IVec S256x1 32 :=
  select (cmpf .olt a (bitcastToFloat .f32 (addi f (broadcast S256x1 b)))) f (addi f (broadcast S256x1 b))

theorem stepV_apply (a : FVec Ideal S256x1 .f32) (f : IVec S256x1 32) (b : BitVec 32) (j : S256x1.Idx) :
    stepV a f b j = Pow2.stepW (a j) (f j) b := rfl

/-- The first seven bits of the field. -/
def field7 (a : FVec Ideal S256x1 .f32) : IVec S256x1 32 :=
  stepV a (stepV a (stepV a (stepV a (stepV a (stepV a (stepV a (broadcast S256x1 0#32) 1073741824#32)
    536870912#32) 268435456#32) 134217728#32) 67108864#32) 33554432#32) 16777216#32

/-- The whole field. -/
def field8 (a : FVec Ideal S256x1 .f32) : IVec S256x1 32 := stepV a (field7 a) 8388608#32

theorem field8_apply (a : FVec Ideal S256x1 .f32) (j : S256x1.Idx) : field8 a j = Pow2.fieldW (a j) := by
  unfold field8 field7 Pow2.fieldW
  have e : ∀ {f : IVec S256x1 32} {g : BitVec 32} (b : BitVec 32), f j = g → stepV a f b j = Pow2.stepW (a j) g b :=
    fun b h => (stepV_apply a _ b j).trans (by rw [h])
  exact e _ (e _ (e _ (e _ (e _ (e _ (e _ (e _ rfl)))))))

/-- The field with the cap on finite inputs. -/
abbrev capV (a : FVec Ideal S256x1 .f32) (f : IVec S256x1 32) : IVec S256x1 32 :=
  select (cmpf .oeq (mulf a (broadcast S256x1 (Scalar.ofBits .f32 0x00000000#32)))
    (broadcast S256x1 (Scalar.ofBits .f32 0x00000000#32))) (minsi f (broadcast S256x1 2113929216#32)) f

/-- The scale column. -/
def scaleV (a : FVec Ideal S256x1 .f32) : FVec Ideal S256x1 .f32 :=
  select (cmpi .ne (capV a (field8 a)) (broadcast S256x1 0#32))
    (bitcastToFloat .f32 (addi (capV a (field8 a)) (broadcast S256x1 8388608#32)))
    (broadcast S256x1 (Scalar.ofBits .f32 0x3F800000#32))

/-- The column of inverses of the scale. -/
def inverseV (a : FVec Ideal S256x1 .f32) : FVec Ideal S256x1 .f32 :=
  select (cmpi .ne (capV a (field8 a)) (broadcast S256x1 0#32))
    (bitcastToFloat .f32 (subi (broadcast S256x1 2122317824#32) (capV a (field8 a))))
    (broadcast S256x1 (Scalar.ofBits .f32 0x3F800000#32))

theorem scaleV_apply (a : FVec Ideal S256x1 .f32) (j : S256x1.Idx) (h : 0 ≤ a j) : scaleV a j = Pow2.scaleR (a j) :=
  Eq.trans (b := Pow2.scaleW (a j)) (by unfold scaleV Pow2.scaleW; simp only [← field8_apply]; rfl) (Pow2.scale_eq h)

theorem inverseV_apply (a : FVec Ideal S256x1 .f32) (j : S256x1.Idx) (h : 0 ≤ a j) : inverseV a j = Pow2.inverseR (a j) :=
  Eq.trans (b := Pow2.inverseW (a j)) (by unfold inverseV Pow2.inverseW; simp only [← field8_apply]; rfl) (Pow2.inverse_eq h)

/-! ## The normalised half -/

section Norm

variable (scale shift : Vec Ideal S1x1x1152 .bf16) (x : Vec Ideal S256x1152 .bf16)

/-- The normalised row of row `p`. -/
abbrev normRow (p : Fin 256) : Fin 1152 → EReal :=
  Row.norm (fun k => x (ix2 p k)) (fun k => scale (ix3 0 0 k)) (fun k => shift (ix3 0 0 k))

theorem named_eq : (Named.named κ "inv_d_model" 979603001#32 : Ideal .f32) = ((1152⁻¹ : ℝ) : EReal) := rfl

theorem norm_apply (j : S256x1152.Idx) : k0_pay4 scale shift x j = normRow scale shift x (j 0) (j 1) := by
  unfold k0_pay4 k0_pay2 k0_pay3 normRow Row.norm Row.centred
  pointwise
  simp only [named_eq, Row.mean_eq]

theorem peak_apply (j : S256x1.Idx) : k0_pay5 scale shift x j = Row.peak (normRow scale shift x (j 0)) := by
  unfold k0_pay5 Row.peak Row.mag
  pointwise
  simp only [norm_apply]
  rfl

/-- The peak column. -/
abbrev peakV : FVec Ideal S256x1 .f32 := k0_pay5 scale shift x

theorem field_eq : k0_pay8 (k0_pay5 scale shift x) k0_pay6 (k0_pay7 scale shift x) = field7 (peakV scale shift x) := rfl

theorem field_eq' : k0_pay20 (k0_pay18 (k0_pay2 scale) (k0_pay3 shift) x) (k0_pay19 (k0_pay2 scale) (k0_pay3 shift) x)
    = field8 (peakV scale shift x) := rfl

/-- The codes from a normalised half and its inverse scales. -/
abbrev codeV (h : FVec Ideal S256x1152 .f32) (a : FVec Ideal S256x1 .f32) : FVec Ideal S256x1152 .f32 :=
  minimumf (broadcast S256x1152 (Scalar.ofBits .f32 0x43E00000#32)) (maximumf (broadcast S256x1152 (Scalar.ofBits .f32 0xC3E00000#32))
    (mulf h (broadcastTo S256x1152 (inverseV a) broadcasts_S256x1_S256x1152)))

theorem codeV_apply (h : FVec Ideal S256x1152 .f32) (a : FVec Ideal S256x1 .f32) (j : S256x1152.Idx) (ha : 0 ≤ a (ix2 (j 0) 0)) :
    codeV h a j = Row.code (a (ix2 (j 0) 0)) (h j) := by
  unfold codeV Row.code
  pointwise
  rw [inverseV_apply _ _ ha]

theorem codes0 : k0_pay13 (k0_pay4 scale shift x) (k0_pay5 scale shift x) (field7 (peakV scale shift x)) k0_pay9
    = codeV (k0_pay4 scale shift x) (peakV scale shift x) := rfl

theorem codes1 : k0_pay25 (k0_pay17 (k0_pay2 scale) (k0_pay3 shift) x) (field8 (peakV scale shift x))
    (k0_pay21 (k0_pay18 (k0_pay2 scale) (k0_pay3 shift) x)) = codeV (k0_pay4 scale shift x) (peakV scale shift x) := rfl

/-- A column of scales spread over 128 lanes. -/
abbrev lanesV (s : FVec Ideal S256x1 .f32) : FVec Ideal S256x128 .f32 :=
  shapeCast S256x128 (broadcastTo S256x128 (shapeCast S256x1 s shapeCasts_S256x1_S256x1) broadcasts_S256x1_S256x128)
    shapeCasts_S256x128_S256x128

theorem lanesV_apply (s : FVec Ideal S256x1 .f32) (j : S256x128.Idx) : lanesV s j = s (ix2 (j 0) 0) := by
  unfold lanesV
  pointwise

theorem lanes0 : k0_pay14 (k0_pay5 scale shift x) (field7 (peakV scale shift x)) k0_pay9
    = lanesV (scaleV (peakV scale shift x)) := rfl

theorem lanes1 : k0_pay26 (field8 (peakV scale shift x)) (k0_pay21 (k0_pay18 (k0_pay2 scale) (k0_pay3 shift) x))
    = lanesV (scaleV (peakV scale shift x)) := rfl

/-- A column of 256 scales laid out in two rows of 128 lanes. -/
abbrev tileV (s : FVec Ideal S256x1 .f32) : FVec Ideal S1x2x128 .f32 :=
  shapeCast S1x2x128 (shapeCast S2x128 s shapeCasts_S256x1_S2x128) shapeCasts_S2x128_S1x2x128

theorem tile0 : k0_pay16 (k0_pay15 (k0_pay5 scale shift x) (field7 (peakV scale shift x)) k0_pay9)
    = tileV (scaleV (peakV scale shift x)) := rfl

theorem tile1 : k0_pay27 (field8 (peakV scale shift x)) (k0_pay21 (k0_pay18 (k0_pay2 scale) (k0_pay3 shift) x))
    = tileV (scaleV (peakV scale shift x)) := rfl

theorem tileV_apply (s : FVec Ideal S256x1 .f32) (j : S1x2x128.Idx) :
    tileV s j = s (ix2 ⟨(j 1).val * 128 + (j 2).val, by have := (j 1).isLt; have := (j 2).isLt; simp at *; omega⟩ 0) := by
  unfold tileV
  pointwise

end Norm

end Cert.Stage
-- ==== Proof.Chunk.lean ====
/-
  The second half of the kernel's arithmetic, read at an index: one 256 × 512 chunk of the result, the running lane
  maximum of its magnitudes, the peak column, and the codes of a chunk.
-/
module

public import proofs.«01_k».proof.Proof.Stage
public import Idealize.ShloMosaic.Lib.WholeRead

@[expose] public section

set_option maxRecDepth 16384

noncomputable section

open Idealize.ShloMosaic Cert.KernelIdeal Cert.KernelIdeal.Gen

namespace Cert.Stage

/-- One chunk of the result from the codes, the scales and the chunk's columns of the other operands. -/
def yV (hc : Vec Ideal S256x1152 .fp8e4m3) (hs : Vec Ideal S256x1 .f32) (w : Vec Ideal S1152x512 .fp8e4m3)
    (g : Vec Ideal S1x1x512 .bf16) (b : Vec Ideal S1x512 .bf16) (ws : Vec Ideal S1x512 .f32)
    (r : Vec Ideal S256x512 .bf16) : FVec Ideal S256x512 .bf16 := k0_pay30 hs (k0_pay29 hc) w g b ws r

theorem yV_apply (hc : Vec Ideal S256x1152 .fp8e4m3) (hs : Vec Ideal S256x1 .f32) (w : Vec Ideal S1152x512 .fp8e4m3)
    (g : Vec Ideal S1x1x512 .bf16) (b : Vec Ideal S1x512 .bf16) (ws : Vec Ideal S1x512 .f32)
    (r : Vec Ideal S256x512 .bf16) (j : S256x512.Idx) :
    yV hc hs w g b ws r j = Row.lin (fun k => hc (ix2 (j 0) k)) (fun k => w (ix2 k (j 1))) (hs (ix2 (j 0) 0))
      (ws (ix2 0 (j 1))) (b (ix2 0 (j 1))) (g (ix3 0 0 (j 1))) (r j) := by
  unfold yV k0_pay30 k0_pay29 Row.lin
  pointwise

/-- The running lane maximum after a chunk. -/
def maxV (m : FVec Ideal S256x128 .bf16) (y : FVec Ideal S256x512 .bf16) : FVec Ideal S256x128 .bf16 :=
  maximumf (maximumf (maximumf (maximumf m (extractStridedSlice S256x128 ![0, 0] (absf y) slices_S256x512_o0_0_S256x128))
    (extractStridedSlice S256x128 ![0, 128] (absf y) slices_S256x512_o0_128_S256x128))
    (extractStridedSlice S256x128 ![0, 256] (absf y) slices_S256x512_o0_256_S256x128))
    (extractStridedSlice S256x128 ![0, 384] (absf y) slices_S256x512_o0_384_S256x128)

theorem maxV_apply (m : FVec Ideal S256x128 .bf16) (y : FVec Ideal S256x512 .bf16) (p : Fin 256) (l : Fin 128)
    {u : Fin 512 → EReal} (hu : ∀ k, y (ix2 p k) = u k) {c : EReal} (hm : m (ix2 p l) = c) :
    maxV m y (ix2 p l) = Row.laneStep (fun k => Row.mag (u k)) l c := by
  unfold maxV Row.laneStep Row.lane Row.mag
  pointwise
  simp only [← hu, ← hm]
  rfl

/-- The peak column from the lane maxima. -/
def topV (m : FVec Ideal S256x128 .bf16) : FVec Ideal S256x1 .f32 :=
  mulf (shapeCast S256x1 (multiReduction .maximumf [1] S256 (extf .f32 m bitsLt_bf16_f32) 0xFF800000#32
    reduces_S256x128_S256 (.inl rfl) rfl) shapeCasts_S256_S256x1) (broadcast S256x1 (Scalar.ofBits .f32 0x3B124925#32))

theorem topV_apply (m : FVec Ideal S256x128 .bf16) (p : Fin 256) {v : Fin 4608 → EReal}
    (h : ∀ l, m (ix2 p l) = Row.laneMax (fun n => Row.mag (v n)) l) : topV m (ix2 p 0) = Row.peak v := by
  rw [← Row.peak_lanes]
  unfold topV
  pointwise
  simp only [← h]

/-- The inverse scales in the result's type. -/
abbrev invB (a : FVec Ideal S256x1 .f32) : FVec Ideal S256x1 .bf16 := truncf .bf16 (inverseV a) bitsLt_bf16_f32

/-- The codes of a chunk under the inverse scales `i`. -/
def yCodeI (i : FVec Ideal S256x1 .bf16) (v : Vec Ideal S256x512 .bf16) : FVec Ideal S256x512 .bf16 :=
  minimumf (broadcast S256x512 (Scalar.ofBits (F := Ideal) .f32 0x43E00000#32))
    (maximumf (broadcast S256x512 (Scalar.ofBits (F := Ideal) .f32 0xC3E00000#32))
      (mulf (shapeCast S256x512 v shapeCasts_S256x512_S256x512) (broadcastTo S256x512 i broadcasts_S256x1_S256x512)))

theorem yCodeI_apply (a : FVec Ideal S256x1 .f32) (v : Vec Ideal S256x512 .bf16) (j : S256x512.Idx)
    (ha : 0 ≤ a (ix2 (j 0) 0)) : yCodeI (invB a) v j = Row.code (a (ix2 (j 0) 0)) (v j) := by
  unfold yCodeI invB Row.code
  pointwise
  rw [inverseV_apply _ _ ha]

theorem start_apply (j : S256x128.Idx) : k0_pay28 (F := Ideal) j = Ideal.ofBits .f32 0x00000000#32 := by
  unfold k0_pay28
  pointwise

theorem start_eq : k0_pay83 (F := Ideal) = k0_pay28 := rfl

end Cert.Stage
-- ==== Proof.HBlock.lean ====
/-
  What one grid point leaves in the code block and the scale block of the normalised rows, and what the second half of
  its body reads back of them: at every index, the row's code and the row's scale.
-/
module

public import proofs.«01_k».proof.Proof.Chunk

@[expose] public section

set_option maxRecDepth 16384

noncomputable section

open Idealize.ShloMosaic Cert.KernelIdeal Cert.KernelIdeal.Gen

namespace Cert.Block

/-- A load of a rectangle of a block reads the block at the rectangle's offset. -/
theorem load_apply {κ : Kind} {sp : Space} {s : Shape} {e : EltTy} {M : Memref sig κ sp s e} (h : M.IsWhole)
    (X : s.Idx → Elt Ideal e) {off size : Fin s.rank → ℕ} (inb : ∀ a, off a + size a ≤ s.size a)
    (x : (Rect.unit off size inb).toLoadRect.shape.Idx) (y : s.Idx) (hy : ∀ a, off a + (x a).val = (y a).val) :
    View.readAt (Elt Ideal) M.view (Rect.unit off size inb).toLoadRect (h.unread X) x = X y :=
  (Memref.IsWhole.readAt_unread h X _ x).trans (congrArg X (funext fun a => Fin.ext (by
    have := hy a
    simpa [LoadRect.idx] using this)))

/-- The normalised row of row `p` of a block. -/
def hRow (x0 : Vec Ideal S512x1152 .bf16) (x1 x2 : Vec Ideal S1x1x1152 .bf16) (p : Fin 512) : Fin 1152 → EReal :=
  Row.norm (fun k => x0 (ix2 p k)) (fun k => x2 (ix3 0 0 k)) (fun k => x1 (ix3 0 0 k))

/-- The row's code at a column. -/
def hCodeAt (x0 : Vec Ideal S512x1152 .bf16) (x1 x2 : Vec Ideal S1x1x1152 .bf16) (y : S512x1152.Idx) : EReal :=
  Row.code (Row.peak (hRow x0 x1 x2 (y 0))) (hRow x0 x1 x2 (y 0) (y 1))

/-- The row's scale. -/
def hScaleAt (x0 : Vec Ideal S512x1152 .bf16) (x1 x2 : Vec Ideal S1x1x1152 .bf16) (p : Fin 512) : EReal :=
  Pow2.scaleR (Row.peak (hRow x0 x1 x2 p))

/-- The scale of the row of an index of the lane scratch. -/
def laneScaleAt (x0 : Vec Ideal S512x1152 .bf16) (x1 x2 : Vec Ideal S1x1x1152 .bf16) (y : S512x128.Idx) : EReal :=
  hScaleAt x0 x1 x2 (y 0)

/-- Row `p` of the half that starts at row `r`. -/
abbrev row (r : ℕ) (hr : r + 256 ≤ 512) (p : Fin 256) : Fin 512 := ⟨r + p.val, by omega⟩

section

variable (c : Dev nD)
  (arg1 : Memref sig .tc .vmem S512x1152 .bf16) (harg1 : arg1.IsWhole)
  (arg2 : Memref sig .tc .vmem S1x1x1152 .bf16) (harg2 : arg2.IsWhole)
  (arg3 : Memref sig .tc .vmem S1x1x1152 .bf16) (harg3 : arg3.IsWhole)
  (x0 : Vec Ideal S512x1152 .bf16) (x1 x2 : Vec Ideal S1x1x1152 .bf16)

/-- The whole scale row as loaded. -/
abbrev scaleL : Vec Ideal S1x1x1152 .bf16 :=
  View.readAt (Elt Ideal) arg3.view (Rect.unit ![0, 0, 0] S1x1x1152.size inb_S1x1x1152_S1x1x1152_0_0_0).toLoadRect (harg3.unread x2)
/-- The whole shift row as loaded. -/
abbrev shiftL : Vec Ideal S1x1x1152 .bf16 :=
  View.readAt (Elt Ideal) arg2.view (Rect.unit ![0, 0, 0] S1x1x1152.size inb_S1x1x1152_S1x1x1152_0_0_0).toLoadRect (harg2.unread x1)
/-- The half of the rows from row `r` as loaded. -/
abbrev xL (r : ℕ) (inb : ∀ a, (![r, 0] : Fin 2 → ℕ) a + S256x1152.size a ≤ S512x1152.size a) : Vec Ideal S256x1152 .bf16 :=
  View.readAt (Elt Ideal) arg1.view (Rect.unit (s := S512x1152) ![r, 0] S256x1152.size inb).toLoadRect (harg1.unread x0)

theorem norm_half (r : ℕ) (hr : r + 256 ≤ 512) (inb : ∀ a, (![r, 0] : Fin 2 → ℕ) a + S256x1152.size a ≤ S512x1152.size a) (p : Fin 256) :
    Stage.normRow (scaleL arg3 harg3 x2) (shiftL arg2 harg2 x1) (xL arg1 harg1 x0 r inb) p = hRow x0 x1 x2 (row r hr p) := by
  have hx : ∀ k, xL arg1 harg1 x0 r inb (ix2 p k) = x0 (ix2 (row r hr p) k) := fun k =>
    load_apply harg1 x0 _ _ _ fun a => by fin_cases a <;> simp
  have hs : ∀ k, scaleL arg3 harg3 x2 (ix3 0 0 k) = x2 (ix3 0 0 k) := fun k =>
    load_apply harg3 x2 _ _ _ fun a => by fin_cases a <;> simp
  have ht : ∀ k, shiftL arg2 harg2 x1 (ix3 0 0 k) = x1 (ix3 0 0 k) := fun k =>
    load_apply harg2 x1 _ _ _ fun a => by fin_cases a <;> simp
  simp only [Stage.normRow, hRow, hx, hs, ht]

/-- Where a rectangle of a block puts its index. -/
theorem emb_eq {s : Shape} {off size : Fin s.rank → ℕ} (inb : ∀ a, off a + size a ≤ s.size a)
    (x : (Rect.unit off size inb).shape.Idx) (y : s.Idx) (hy : ∀ a, off a + (x a).val = (y a).val) :
    (Rect.unit off size inb).emb x = y :=
  funext fun a => Fin.ext (by
    show off a + 1 * (x a).val = (y a).val
    rw [Nat.one_mul]; exact hy a)

/-- An index in a rectangle's range of coordinates is in the rectangle. -/
theorem mem_unit {s : Shape} {off size : Fin s.rank → ℕ} (inb : ∀ a, off a + size a ≤ s.size a) (y : s.Idx)
    (h : ∀ a, off a ≤ (y a).val ∧ (y a).val < off a + size a) : y ∈ (Rect.unit off size inb).set :=
  Rect.mem_set_unit.2 h

/-- A load after stores whose pieces agree with `G` reads `G`, at an index one of them covers. -/
theorem readCov_apply {κ : Kind} {sp : Space} {s : Shape} {e : EltTy} (v : View sig κ sp s e)
    (L : List (View.Piece (Elt Ideal) s e)) (G : s.Idx → Elt Ideal e)
    (hG : ∀ p ∈ L, ∀ x : p.1.shape.Idx, p.2 x = G (p.1.emb x)) {off size : Fin s.rank → ℕ}
    (inb : ∀ a, off a + size a ≤ s.size a) (x : (Rect.unit off size inb).toLoadRect.shape.Idx) (y : s.Idx)
    (hy : ∀ a, off a + (x a).val = (y a).val) (hc : ∃ p ∈ L, y ∈ p.1.set) :
    v.readCov L (Rect.unit off size inb).toLoadRect x = G y := by
  have e : (Rect.unit off size inb).toLoadRect.idx x = y := emb_eq inb x y hy
  rw [View.readCov, View.readAt_apply, e]
  exact View.read_writes_apply_of_pieces _ _ G L hG y hc

theorem peak_half (r : ℕ) (hr : r + 256 ≤ 512) (inb : ∀ a, (![r, 0] : Fin 2 → ℕ) a + S256x1152.size a ≤ S512x1152.size a)
    (j : S256x1.Idx) : Stage.peakV (scaleL arg3 harg3 x2) (shiftL arg2 harg2 x1) (xL arg1 harg1 x0 r inb) j
      = Row.peak (hRow x0 x1 x2 (row r hr (j 0))) := by
  exact (Stage.peak_apply _ _ _ j).trans (congrArg Row.peak (norm_half arg1 harg1 arg2 harg2 arg3 harg3 x0 x1 x2 r hr inb (j 0)))

theorem code_half (r : ℕ) (hr : r + 256 ≤ 512) (inb : ∀ a, (![r, 0] : Fin 2 → ℕ) a + S256x1152.size a ≤ S512x1152.size a)
    (j : S256x1152.Idx) : Stage.codeV (k0_pay4 (scaleL arg3 harg3 x2) (shiftL arg2 harg2 x1) (xL arg1 harg1 x0 r inb))
      (Stage.peakV (scaleL arg3 harg3 x2) (shiftL arg2 harg2 x1) (xL arg1 harg1 x0 r inb)) j
      = hCodeAt x0 x1 x2 (ix2 (row r hr (j 0)) (j 1)) := by
  have hp := peak_half arg1 harg1 arg2 harg2 arg3 harg3 x0 x1 x2 r hr inb (ix2 (j 0) 0)
  exact (Stage.codeV_apply _ _ _ (by rw [hp]; exact Row.peak_nonneg _)).trans (congrArg₂ Row.code hp
    ((Stage.norm_apply _ _ _ j).trans (congrFun (norm_half arg1 harg1 arg2 harg2 arg3 harg3 x0 x1 x2 r hr inb (j 0)) (j 1))))

theorem scale_half (r : ℕ) (hr : r + 256 ≤ 512) (inb : ∀ a, (![r, 0] : Fin 2 → ℕ) a + S256x1152.size a ≤ S512x1152.size a)
    (j : S256x1.Idx) : Stage.scaleV (Stage.peakV (scaleL arg3 harg3 x2) (shiftL arg2 harg2 x1) (xL arg1 harg1 x0 r inb)) j
      = hScaleAt x0 x1 x2 (row r hr (j 0)) := by
  have hp := peak_half arg1 harg1 arg2 harg2 arg3 harg3 x0 x1 x2 r hr inb j
  rw [Stage.scaleV_apply _ _ (by rw [hp]; exact Row.peak_nonneg _), hp]
  rfl

/-- The rectangles of the two halves of the code block carry the rows' codes. -/
theorem codes_pieces : ∀ p ∈ kernelRun0_A.sl.H9_2 c arg1 harg1 arg2 harg2 arg3 harg3 x0 x1 x2, ∀ x : p.1.shape.Idx,
    p.2 x = hCodeAt x0 x1 x2 (p.1.emb x) := by
  unfold kernelRun0_A.sl.H9_2
  refine List.forall_mem_cons.2 ⟨fun x => ?_, List.forall_mem_cons.2 ⟨fun x => ?_, fun _ h => absurd h List.not_mem_nil⟩⟩
  · rw [emb_eq _ x (ix2 (row 256 (by norm_num) (x 0)) (x 1)) fun a => by fin_cases a <;> simp]
    refine Eq.trans ?_ (code_half arg1 harg1 arg2 harg2 arg3 harg3 x0 x1 x2 256 (by norm_num) inb_S512x1152_S256x1152_256_0 x)
    exact congrFun (Stage.codes1 _ _ _) x
  · rw [emb_eq _ x (ix2 (row 0 (by norm_num) (x 0)) (x 1)) fun a => by fin_cases a <;> simp]
    refine Eq.trans ?_ (code_half arg1 harg1 arg2 harg2 arg3 harg3 x0 x1 x2 0 (by norm_num) inb_S512x1152_S256x1152_0_0 x)
    exact congrFun (Stage.codes0 _ _ _) x

theorem field0 : kernelRun0_A.sl.r_5 c arg1 harg1 arg2 harg2 arg3 harg3 x0 x1 x2 = Stage.field7 (Stage.peakV
    (scaleL arg3 harg3 x2) (shiftL arg2 harg2 x1) (xL arg1 harg1 x0 0 inb_S512x1152_S256x1152_0_0)) := by
  unfold kernelRun0_A.sl.r_5 kernelRun0_A.sl.r_3 kernelRun0_A.sl.r_4
  exact Stage.field_eq _ _ _

theorem field1 : kernelRun0_A.sl.r_11 c arg1 harg1 arg2 harg2 arg3 harg3 x0 x1 x2 = Stage.field8 (Stage.peakV
    (scaleL arg3 harg3 x2) (shiftL arg2 harg2 x1) (xL arg1 harg1 x0 256 inb_S512x1152_S256x1152_256_0)) := by
  unfold kernelRun0_A.sl.r_11 kernelRun0_A.sl.r_9 kernelRun0_A.sl.r_10 kernelRun0_A.sl.r kernelRun0_A.sl.r_1
  exact Stage.field_eq' _ _ _

theorem lanes_half0 : k0_pay14 (kernelRun0_A.sl.r_3 c arg1 harg1 arg2 harg2 arg3 harg3 x0 x1 x2)
    (kernelRun0_A.sl.r_5 c arg1 harg1 arg2 harg2 arg3 harg3 x0 x1 x2) k0_pay9 = Stage.lanesV (Stage.scaleV (Stage.peakV
    (scaleL arg3 harg3 x2) (shiftL arg2 harg2 x1) (xL arg1 harg1 x0 0 inb_S512x1152_S256x1152_0_0))) := by
  rw [field0]
  exact Stage.lanes0 _ _ _

theorem lanes_half1 : k0_pay26 (kernelRun0_A.sl.r_11 c arg1 harg1 arg2 harg2 arg3 harg3 x0 x1 x2)
    (kernelRun0_A.sl.r_12 c arg1 harg1 arg2 harg2 arg3 harg3 x0 x1 x2) = Stage.lanesV (Stage.scaleV (Stage.peakV
    (scaleL arg3 harg3 x2) (shiftL arg2 harg2 x1) (xL arg1 harg1 x0 256 inb_S512x1152_S256x1152_256_0))) := by
  rw [field1]
  exact Stage.lanes1 _ _ _

/-- The rectangles of the two halves of the lane scratch carry the rows' scales. -/
theorem lanes_pieces : ∀ p ∈ kernelRun0_A.sl.HS0_2 c arg1 harg1 arg2 harg2 arg3 harg3 x0 x1 x2, ∀ x : p.1.shape.Idx,
    p.2 x = laneScaleAt x0 x1 x2 (p.1.emb x) := by
  unfold kernelRun0_A.sl.HS0_2
  refine List.forall_mem_cons.2 ⟨fun x => ?_, List.forall_mem_cons.2 ⟨fun x => ?_, fun _ h => absurd h List.not_mem_nil⟩⟩
  · rw [emb_eq _ x (ix2 (row 256 (by norm_num) (x 0)) (x 1)) fun a => by fin_cases a <;> simp]
    have e := (congrFun (lanes_half1 c arg1 harg1 arg2 harg2 arg3 harg3 x0 x1 x2) x).trans ((Stage.lanesV_apply _ x).trans
      (scale_half arg1 harg1 arg2 harg2 arg3 harg3 x0 x1 x2 256 (by norm_num) inb_S512x1152_S256x1152_256_0 (ix2 (x 0) 0)))
    dsimp only
    exact e
  · rw [emb_eq _ x (ix2 (row 0 (by norm_num) (x 0)) (x 1)) fun a => by fin_cases a <;> simp]
    have e := (congrFun (lanes_half0 c arg1 harg1 arg2 harg2 arg3 harg3 x0 x1 x2) x).trans ((Stage.lanesV_apply _ x).trans
      (scale_half arg1 harg1 arg2 harg2 arg3 harg3 x0 x1 x2 0 (by norm_num) inb_S512x1152_S256x1152_0_0 (ix2 (x 0) 0)))
    dsimp only
    exact e

theorem tile_half0 : k0_pay16 (kernelRun0_A.sl.r_6 c arg1 harg1 arg2 harg2 arg3 harg3 x0 x1 x2) = Stage.tileV (Stage.scaleV (Stage.peakV
    (scaleL arg3 harg3 x2) (shiftL arg2 harg2 x1) (xL arg1 harg1 x0 0 inb_S512x1152_S256x1152_0_0))) := by
  unfold kernelRun0_A.sl.r_6
  rw [field0]
  exact Stage.tile0 _ _ _

theorem tile_half1 : k0_pay27 (kernelRun0_A.sl.r_11 c arg1 harg1 arg2 harg2 arg3 harg3 x0 x1 x2)
    (kernelRun0_A.sl.r_12 c arg1 harg1 arg2 harg2 arg3 harg3 x0 x1 x2) = Stage.tileV (Stage.scaleV (Stage.peakV
    (scaleL arg3 harg3 x2) (shiftL arg2 harg2 x1) (xL arg1 harg1 x0 256 inb_S512x1152_S256x1152_256_0))) := by
  rw [field1]
  exact Stage.tile1 _ _ _

/-- The codes read back for the half from row 0. -/
theorem read_codes0 (arg10 : Memref sig .tc .vmem S512x1152 .fp8e4m3) (p : Fin 256) (k : Fin 1152) :
    kernelRun0_A.sl.v252 c arg1 harg1 arg2 harg2 arg3 harg3 arg10 x0 x1 x2 (ix2 p k)
      = hCodeAt x0 x1 x2 (ix2 (row 0 (by norm_num) p) k) := by
  unfold kernelRun0_A.sl.v252
  refine readCov_apply (e := .fp8e4m3) _ _ (hCodeAt x0 x1 x2) (codes_pieces c arg1 harg1 arg2 harg2 arg3 harg3 x0 x1 x2) _ _ _
    (fun a => by fin_cases a <;> simp) ?_
  refine ⟨_, List.mem_cons_of_mem _ List.mem_cons_self, mem_unit inb_S512x1152_S256x1152_0_0 _ fun a => ?_⟩
  fin_cases a <;> simp
  all_goals omega

/-- The codes read back for the half from row 256. -/
theorem read_codes1 (arg10 : Memref sig .tc .vmem S512x1152 .fp8e4m3) (p : Fin 256) (k : Fin 1152) :
    kernelRun0_A.sl.v763 c arg1 harg1 arg2 harg2 arg3 harg3 arg10 x0 x1 x2 (ix2 p k)
      = hCodeAt x0 x1 x2 (ix2 (row 256 (by norm_num) p) k) := by
  unfold kernelRun0_A.sl.v763
  refine readCov_apply (e := .fp8e4m3) _ _ (hCodeAt x0 x1 x2) (codes_pieces c arg1 harg1 arg2 harg2 arg3 harg3 x0 x1 x2) _ _ _
    (fun a => by fin_cases a <;> simp) ?_
  refine ⟨_, List.mem_cons_self, mem_unit inb_S512x1152_S256x1152_256_0 _ fun a => ?_⟩
  fin_cases a <;> simp
  all_goals omega

/-- The scales read back for the half from row 0. -/
theorem read_scales0 (arg14 : Memref sig .tc .vmem S512x128 .f32) (p : Fin 256) :
    kernelRun0_A.sl.v250 c arg1 harg1 arg2 harg2 arg3 harg3 arg14 x0 x1 x2 (ix2 p 0)
      = hScaleAt x0 x1 x2 (row 0 (by norm_num) p) := by
  unfold kernelRun0_A.sl.v250
  refine readCov_apply (e := .f32) _ _ (laneScaleAt x0 x1 x2) (lanes_pieces c arg1 harg1 arg2 harg2 arg3 harg3 x0 x1 x2) _ _
    (ix2 (row 0 (by norm_num) p) 0 : S512x128.Idx) (fun a => by fin_cases a <;> simp) ?_
  refine ⟨_, List.mem_cons_of_mem _ List.mem_cons_self, mem_unit inb_S512x128_S256x128_0_0 _ fun a => ?_⟩
  fin_cases a <;> simp
  all_goals omega

/-- The scales read back for the half from row 256. -/
theorem read_scales1 (arg14 : Memref sig .tc .vmem S512x128 .f32) (p : Fin 256) :
    kernelRun0_A.sl.v761 c arg1 harg1 arg2 harg2 arg3 harg3 arg14 x0 x1 x2 (ix2 p 0)
      = hScaleAt x0 x1 x2 (row 256 (by norm_num) p) := by
  unfold kernelRun0_A.sl.v761
  refine readCov_apply (e := .f32) _ _ (laneScaleAt x0 x1 x2) (lanes_pieces c arg1 harg1 arg2 harg2 arg3 harg3 x0 x1 x2) _ _
    (ix2 (row 256 (by norm_num) p) 0 : S512x128.Idx) (fun a => by fin_cases a <;> simp) ?_
  refine ⟨_, List.mem_cons_self, mem_unit inb_S512x128_S256x128_256_0 _ fun a => ?_⟩
  fin_cases a <;> simp
  all_goals omega

end

end Cert.Block
-- ==== Proof.Forms.lean ====
/-
  The printed program cuts one computation at different places in different chunks. Each equation here holds by
  definition: what a chunk's stores carry is `yV` or `yCodeI` of the chunk's operands, and what the search for the
  exponent field ends in is `scaleV` or `invB` of the peak column.
-/
module

public import proofs.«01_k».proof.Proof.Chunk

@[expose] public section

set_option maxRecDepth 16384

noncomputable section

open Idealize.ShloMosaic Cert.KernelIdeal Cert.KernelIdeal.Gen

namespace Cert.Stage

section

variable (hc : Vec Ideal S256x1152 .fp8e4m3) (hs : Vec Ideal S256x1 .f32) (w : Vec Ideal S1152x512 .fp8e4m3)
  (g : Vec Ideal S1x1x512 .bf16) (b : Vec Ideal S1x512 .bf16) (ws : Vec Ideal S1x512 .f32) (r : Vec Ideal S256x512 .bf16)

theorem y0_4096 : k0_pay58 hs (k0_pay57 hc w) g b ws r = yV hc hs w g b ws r := rfl
theorem y0_3584 : k0_pay55 hs hc w g b ws r = yV hc hs w g b ws r := rfl
theorem y0_3072 : k0_pay53 hs hc w g b ws r = yV hc hs w g b ws r := rfl
theorem y0_2560 : k0_pay50 hs hc w g b ws r = yV hc hs w g b ws r := rfl
theorem y0_2048 : k0_pay48 (k0_pay46 hs hc w g b ws) (k0_pay47 r) = yV hc hs w g b ws r := rfl
theorem y0_1536 : k0_pay44 (k0_pay41 g) (k0_pay42 hs hc w ws) (k0_pay43 b) r = yV hc hs w g b ws r := rfl
theorem y0_1024 : k0_pay39 (k0_pay35 hc w) (k0_pay36 g) (k0_pay37 b) (k0_pay38 hs) ws r = yV hc hs w g b ws r := rfl
theorem y0_512 : k0_pay33 hs (k0_pay32 hc w) g b ws r = yV hc hs w g b ws r := rfl
theorem y0_0 : k0_pay30 hs (k0_pay29 hc) w g b ws r = yV hc hs w g b ws r := rfl
theorem y256_4096 : k0_pay112 (k0_pay109 g) (k0_pay110 b) (k0_pay111 hs hc w ws) r = yV hc hs w g b ws r := rfl
theorem y256_3584 : k0_pay107 hs (k0_pay104 hc w) (k0_pay105 g) (k0_pay106 b) ws r = yV hc hs w g b ws r := rfl
theorem y256_3072 : k0_pay102 hs (k0_pay101 hc w) g b ws r = yV hc hs w g b ws r := rfl
theorem y256_2560 : k0_pay99 hs (k0_pay98 hc) w g b ws r = yV hc hs w g b ws r := rfl
theorem y256_2048 : k0_pay96 hs hc w g b ws r = yV hc hs w g b ws r := rfl
theorem y256_1536 : k0_pay93 hs hc w g b ws r = yV hc hs w g b ws r := rfl
theorem y256_1024 : k0_pay92 hs hc w g b ws r = yV hc hs w g b ws r := rfl
theorem y256_512 : k0_pay90 (k0_pay89 hs hc w g b ws) r = yV hc hs w g b ws r := rfl
theorem y256_0 : k0_pay87 (k0_pay84 g) (k0_pay85 b) (k0_pay86 hs hc w) ws r = yV hc hs w g b ws r := rfl

end

section

variable (a : FVec Ideal S256x1 .f32) (f : IVec S256x1 32) (l : IVec S256x1 1) (i : FVec Ideal S256x1 .bf16)
  (v : Vec Ideal S256x512 .bf16)

theorem c0_0 : k0_pay69 a f l v = yCodeI (k0_pay68 a f l) v := rfl
theorem c0_512 : k0_pay72 (k0_pay70 a f l v) kernelRun0_A.sl.cst_253 k0_pay71 = yCodeI (k0_pay68 a f l) v := rfl
theorem c0_1024 : k0_pay73 i v = yCodeI i v := rfl
theorem c0_1536 : k0_pay74 i v = yCodeI i v := rfl
theorem c0_2048 : k0_pay77 (k0_pay75 i v) k0_pay76 = yCodeI i v := rfl
theorem c0_2560 : k0_pay78 i v = yCodeI i v := rfl
theorem c0_3072 : k0_pay79 i v = yCodeI i v := rfl
theorem c0_3584 : k0_pay80 i v = yCodeI i v := rfl
theorem c0_4096 : k0_pay81 i v = yCodeI i v := rfl
theorem c256_0 : k0_pay120 f l v = yCodeI (k0_pay119 f l) v := rfl
theorem c256_512 : k0_pay121 f l v = yCodeI (k0_pay119 f l) v := rfl
theorem c256_1024 : k0_pay124 (k0_pay122 f l v) kernelRun0_A.sl.cst_253 k0_pay123 = yCodeI (k0_pay119 f l) v := rfl
theorem c256_1536 : k0_pay125 i v = yCodeI i v := rfl
theorem c256_2048 : k0_pay126 i v = yCodeI i v := rfl
theorem c256_2560 : k0_pay129 (k0_pay127 i v) k0_pay128 = yCodeI i v := rfl
theorem c256_3072 : k0_pay130 i v = yCodeI i v := rfl
theorem c256_3584 : k0_pay131 i v = yCodeI i v := rfl
theorem c256_4096 : k0_pay132 i v = yCodeI i v := rfl

/-- The last comparison of the search. -/
abbrev lastV : IVec S256x1 1 := cmpf .olt a (bitcastToFloat .f32 (addi (field7 a) (broadcast S256x1 8388608#32)))

/-- Whether the field is not zero. -/
abbrev liveV : IVec S256x1 1 := cmpi .ne (capV a (field8 a)) (broadcast S256x1 0#32)

theorem scale_first : k0_pay67 a (field7 a) (lastV a) = scaleV a := rfl
theorem inverse_first : k0_pay68 a (field7 a) (lastV a) = invB a := rfl
theorem scale_second : k0_pay118 (capV a (field8 a)) (liveV a) k0_pay117 = scaleV a := rfl
theorem inverse_second : k0_pay119 (capV a (field8 a)) (liveV a) = invB a := rfl
theorem tile_first (s : FVec Ideal S256x1 .f32) : k0_pay82 s = tileV s := rfl
theorem tile_second (s : FVec Ideal S256x1 .f32) : k0_pay1 s = tileV s := rfl

theorem field_first (m : FVec Ideal S256x128 .bf16) (u : FVec Ideal S256x512 .f32) (hs : Vec Ideal S256x1 .f32)
    (g : Vec Ideal S1x1x512 .bf16) (b : Vec Ideal S1x512 .bf16) (ws : Vec Ideal S1x512 .f32) (r : Vec Ideal S256x512 .bf16) :
    k0_pay63 (k0_pay59 hs m u g b ws r) k0_pay60 (k0_pay61 hs m u g b ws r) k0_pay62 = field7 (k0_pay59 hs m u g b ws r) := rfl

theorem last_first (m : FVec Ideal S256x128 .bf16) (u : FVec Ideal S256x512 .f32) (hs : Vec Ideal S256x1 .f32)
    (g : Vec Ideal S1x1x512 .bf16) (b : Vec Ideal S1x512 .bf16) (ws : Vec Ideal S1x512 .f32) (r : Vec Ideal S256x512 .bf16) :
    k0_pay64 (k0_pay59 hs m u g b ws r) k0_pay60 (k0_pay61 hs m u g b ws r) k0_pay62 = lastV (k0_pay59 hs m u g b ws r) := rfl

theorem field_second (m : FVec Ideal S256x128 .bf16) (g b : FVec Ideal S1x512 .f32) (u : FVec Ideal S256x512 .f32)
    (r : Vec Ideal S256x512 .bf16) : k0_pay115 (k0_pay113 m g b u r) (k0_pay114 m g b u r)
      = capV (k0_pay113 m g b u r) (field8 (k0_pay113 m g b u r)) := rfl

theorem live_second (m : FVec Ideal S256x128 .bf16) (g b : FVec Ideal S1x512 .f32) (u : FVec Ideal S256x512 .f32)
    (r : Vec Ideal S256x512 .bf16) : k0_pay116 (k0_pay113 m g b u r) (k0_pay114 m g b u r)
      = liveV (k0_pay113 m g b u r) := rfl

end

section

variable (m : FVec Ideal S256x128 .bf16) (hc : Vec Ideal S256x1152 .fp8e4m3) (hs : Vec Ideal S256x1 .f32)
  (w w' w'' : Vec Ideal S1152x512 .fp8e4m3) (g g' g'' : Vec Ideal S1x1x512 .bf16) (b b' b'' : Vec Ideal S1x512 .bf16)
  (ws ws' ws'' : Vec Ideal S1x512 .f32) (r r' r'' : Vec Ideal S256x512 .bf16)

theorem max_first_0 : k0_pay31 hs m (k0_pay29 hc) w g b ws r
    = maxV m (yV hc hs w g b ws r) := rfl
theorem max_first_512 : k0_pay34 hs m (k0_pay32 hc w) g b ws r
    = maxV m (yV hc hs w g b ws r) := rfl
theorem max_first_1024 : k0_pay40 m (k0_pay35 hc w) (k0_pay36 g) (k0_pay37 b) (k0_pay38 hs) ws r
    = maxV m (yV hc hs w g b ws r) := rfl
theorem max_first_1536 : k0_pay45 m (k0_pay41 g) (k0_pay42 hs hc w ws) (k0_pay43 b) r
    = maxV m (yV hc hs w g b ws r) := rfl
theorem max_first_2048 : k0_pay49 m (k0_pay46 hs hc w g b ws) (k0_pay47 r)
    = maxV m (yV hc hs w g b ws r) := rfl
theorem max_first_3072 : k0_pay54 hs m (k0_pay51 hs hc w g b ws r) (k0_pay52 hs hc w g b ws r) hc w' g' b' ws' r'
    = maxV (maxV m (yV hc hs w g b ws r)) (yV hc hs w' g' b' ws' r') := rfl
theorem max_first_3584 : k0_pay56 hs m hc w g b ws r
    = maxV m (yV hc hs w g b ws r) := rfl
theorem max_first_4096 : k0_pay59 hs m (k0_pay57 hc w) g b ws r
    = topV (maxV m (yV hc hs w g b ws r)) := rfl
theorem max_second_0 : k0_pay88 m (k0_pay84 g) (k0_pay85 b) (k0_pay86 hs hc w) ws r
    = maxV m (yV hc hs w g b ws r) := rfl
theorem max_second_512 : k0_pay91 m (k0_pay89 hs hc w g b ws) r
    = maxV m (yV hc hs w g b ws r) := rfl
theorem max_second_2048 : k0_pay97 hs (k0_pay94 hs hc w' g' b' ws' r') (k0_pay95 hs m (k0_pay92 hs hc w g b ws r) hc w' g' b' ws' r') hc w'' g'' b'' ws'' r''
    = maxV (maxV (maxV m (yV hc hs w g b ws r)) (yV hc hs w' g' b' ws' r')) (yV hc hs w'' g'' b'' ws'' r'') := rfl
theorem max_second_2560 : k0_pay100 hs m (k0_pay98 hc) w g b ws r
    = maxV m (yV hc hs w g b ws r) := rfl
theorem max_second_3072 : k0_pay103 hs m (k0_pay101 hc w) g b ws r
    = maxV m (yV hc hs w g b ws r) := rfl
theorem max_second_3584 : k0_pay108 hs m (k0_pay104 hc w) (k0_pay105 g) (k0_pay106 b) ws r
    = maxV m (yV hc hs w g b ws r) := rfl
theorem max_second_4096 : k0_pay113 m (k0_pay109 g) (k0_pay110 b) (k0_pay111 hs hc w ws) r
    = topV (maxV m (yV hc hs w g b ws r)) := rfl

end

end Cert.Stage
-- ==== Proof.YBlock.lean ====
/-
  What one grid point leaves in the result block, and the peak column of the result rows: at every index, the row's
  result and the row's peak.
-/
module

public import proofs.«01_k».proof.Proof.HBlock
public import proofs.«01_k».proof.Proof.Forms

@[expose] public section

set_option maxRecDepth 16384

noncomputable section

open Idealize.ShloMosaic Cert.KernelIdeal Cert.KernelIdeal.Gen

namespace Cert.Block

/-- Row `p` of a block with the operands of its batch entry. -/
def rowAt (x0 : Vec Ideal S512x1152 .bf16)
  (x1 : Vec Ideal S1x1x1152 .bf16)
  (x2 : Vec Ideal S1x1x1152 .bf16)
  (x3 : Vec Ideal S1x1x4608 .bf16)
  (x4 : Vec Ideal S512x4608 .bf16)
  (x5 : Vec Ideal S1152x4608 .fp8e4m3)
  (x6 : Vec Ideal S1x4608 .f32)
  (x7 : Vec Ideal S1x4608 .bf16) (p : Fin 512) : Row.Data where
  x k := x0 (ix2 p k)
  shift k := x1 (ix3 0 0 k)
  scale k := x2 (ix3 0 0 k)
  gate n := x3 (ix3 0 0 n)
  resid n := x4 (ix2 p n)
  w k n := x5 (ix2 k n)
  wscale n := x6 (ix2 0 n)
  bias n := x7 (ix2 0 n)

/-- The result at an index of the block. -/
def yAt (x0 : Vec Ideal S512x1152 .bf16)
  (x1 : Vec Ideal S1x1x1152 .bf16)
  (x2 : Vec Ideal S1x1x1152 .bf16)
  (x3 : Vec Ideal S1x1x4608 .bf16)
  (x4 : Vec Ideal S512x4608 .bf16)
  (x5 : Vec Ideal S1152x4608 .fp8e4m3)
  (x6 : Vec Ideal S1x4608 .f32)
  (x7 : Vec Ideal S1x4608 .bf16) (y : S512x4608.Idx) : EReal := (rowAt x0 x1 x2 x3 x4 x5 x6 x7 (y 0)).y (y 1)

section

variable (c : Dev nD)
  (arg1 : Memref sig .tc .vmem S512x1152 .bf16) (harg1 : arg1.IsWhole)
  (arg2 : Memref sig .tc .vmem S1x1x1152 .bf16) (harg2 : arg2.IsWhole)
  (arg3 : Memref sig .tc .vmem S1x1x1152 .bf16) (harg3 : arg3.IsWhole)
  (arg4 : Memref sig .tc .vmem S1x1x4608 .bf16) (harg4 : arg4.IsWhole)
  (arg5 : Memref sig .tc .vmem S512x4608 .bf16) (harg5 : arg5.IsWhole)
  (arg6 : Memref sig .tc .vmem S1152x4608 .fp8e4m3) (harg6 : arg6.IsWhole)
  (arg7 : Memref sig .tc .vmem S1x4608 .f32) (harg7 : arg7.IsWhole)
  (arg8 : Memref sig .tc .vmem S1x4608 .bf16) (harg8 : arg8.IsWhole)
  (arg10 : Memref sig .tc .vmem S512x1152 .fp8e4m3)
  (arg14 : Memref sig .tc .vmem S512x128 .f32)
  (x0 : Vec Ideal S512x1152 .bf16)
  (x1 : Vec Ideal S1x1x1152 .bf16)
  (x2 : Vec Ideal S1x1x1152 .bf16)
  (x3 : Vec Ideal S1x1x4608 .bf16)
  (x4 : Vec Ideal S512x4608 .bf16)
  (x5 : Vec Ideal S1152x4608 .fp8e4m3)
  (x6 : Vec Ideal S1x4608 .f32)
  (x7 : Vec Ideal S1x4608 .bf16)

/-- A chunk's columns of the weights as loaded. -/
abbrev wL (o : ℕ) (inb : ∀ a, (![0, o] : Fin 2 → ℕ) a + S1152x512.size a ≤ S1152x4608.size a) : Vec Ideal S1152x512 .fp8e4m3 :=
  View.readAt (Elt Ideal) arg6.view (Rect.unit (s := S1152x4608) ![0, o] S1152x512.size inb).toLoadRect (harg6.unread x5)

/-- A chunk's columns of the gate as loaded. -/
abbrev gL (o : ℕ) (inb : ∀ a, (![0, 0, o] : Fin 3 → ℕ) a + S1x1x512.size a ≤ S1x1x4608.size a) : Vec Ideal S1x1x512 .bf16 :=
  View.readAt (Elt Ideal) arg4.view (Rect.unit (s := S1x1x4608) ![0, 0, o] S1x1x512.size inb).toLoadRect (harg4.unread x3)

/-- A chunk's columns of the bias as loaded. -/
abbrev bL (o : ℕ) (inb : ∀ a, (![0, o] : Fin 2 → ℕ) a + S1x512.size a ≤ S1x4608.size a) : Vec Ideal S1x512 .bf16 :=
  View.readAt (Elt Ideal) arg8.view (Rect.unit (s := S1x4608) ![0, o] S1x512.size inb).toLoadRect (harg8.unread x7)

/-- A chunk's columns of the weights' scales as loaded. -/
abbrev sL (o : ℕ) (inb : ∀ a, (![0, o] : Fin 2 → ℕ) a + S1x512.size a ≤ S1x4608.size a) : Vec Ideal S1x512 .f32 :=
  View.readAt (Elt Ideal) arg7.view (Rect.unit (s := S1x4608) ![0, o] S1x512.size inb).toLoadRect (harg7.unread x6)

/-- A chunk of the residual as loaded. -/
abbrev rL (r : ℕ) (o : ℕ) (inb : ∀ a, (![r, o] : Fin 2 → ℕ) a + S256x512.size a ≤ S512x4608.size a) : Vec Ideal S256x512 .bf16 :=
  View.readAt (Elt Ideal) arg5.view (Rect.unit (s := S512x4608) ![r, o] S256x512.size inb).toLoadRect (harg5.unread x4)

/-- One chunk of a half: at an index, the row's result at the chunk's column. -/
theorem y_half (r : ℕ) (hr : r + 256 ≤ 512) (cc : Fin 9) (o : ℕ) (ho : o = 512 * cc.val)
    {hc : Vec Ideal S256x1152 .fp8e4m3} {hs : Vec Ideal S256x1 .f32}
    (hhc : ∀ p k, hc (ix2 p k) = hCodeAt x0 x1 x2 (ix2 (row r hr p) k))
    (hhs : ∀ p, hs (ix2 p 0) = hScaleAt x0 x1 x2 (row r hr p))
    (iw : ∀ a, (![0, o] : Fin 2 → ℕ) a + S1152x512.size a ≤ S1152x4608.size a)
    (ig : ∀ a, (![0, 0, o] : Fin 3 → ℕ) a + S1x1x512.size a ≤ S1x1x4608.size a)
    (ib : ∀ a, (![0, o] : Fin 2 → ℕ) a + S1x512.size a ≤ S1x4608.size a)
    (ir : ∀ a, (![r, o] : Fin 2 → ℕ) a + S256x512.size a ≤ S512x4608.size a) (j : S256x512.Idx) :
    Stage.yV hc hs (wL arg6 harg6 x5 o iw) (gL arg4 harg4 x3 o ig) (bL arg8 harg8 x7 o ib) (sL arg7 harg7 x6 o ib)
      (rL arg5 harg5 x4 r o ir) j = (rowAt x0 x1 x2 x3 x4 x5 x6 x7 (row r hr (j 0))).y (Row.col cc (j 1)) := by
  subst ho
  have hw : ∀ l, wL arg6 harg6 x5 _ iw (ix2 l (j 1)) = x5 (ix2 l (Row.col cc (j 1))) := fun l =>
    load_apply harg6 x5 _ _ _ fun a => by fin_cases a <;> simp
  have hg : gL arg4 harg4 x3 _ ig (ix3 0 0 (j 1)) = x3 (ix3 0 0 (Row.col cc (j 1))) :=
    load_apply harg4 x3 _ _ _ fun a => by fin_cases a <;> simp
  have hb : bL arg8 harg8 x7 _ ib (ix2 0 (j 1)) = x7 (ix2 0 (Row.col cc (j 1))) :=
    load_apply harg8 x7 _ _ _ fun a => by fin_cases a <;> simp
  have hws : sL arg7 harg7 x6 _ ib (ix2 0 (j 1)) = x6 (ix2 0 (Row.col cc (j 1))) :=
    load_apply harg7 x6 _ _ _ fun a => by fin_cases a <;> simp
  have hres : rL arg5 harg5 x4 r _ ir j = x4 (ix2 (row r hr (j 0)) (Row.col cc (j 1))) :=
    load_apply harg5 x4 _ _ _ fun a => by fin_cases a <;> simp
  refine (Stage.yV_apply _ _ _ _ _ _ _ j).trans ?_
  show Row.lin (fun l => hc (ix2 (j 0) l)) (fun l => wL arg6 harg6 x5 _ iw (ix2 l (j 1))) (hs (ix2 (j 0) 0))
    (sL arg7 harg7 x6 _ ib (ix2 0 (j 1))) (bL arg8 harg8 x7 _ ib (ix2 0 (j 1))) (gL arg4 harg4 x3 _ ig (ix3 0 0 (j 1)))
    (rL arg5 harg5 x4 r _ ir j) = _
  simp only [hw, hg, hb, hws, hres]
  exact congrArg₂ (fun a b => Row.lin a _ b _ _ _ _) (funext fun l => hhc (j 0) l) (hhs (j 0))

/-- A chunk of the half from row 0. -/
theorem y_chunk0 (cc : Fin 9) (o : ℕ) (ho : o = 512 * cc.val)
    (iw : ∀ a, (![0, o] : Fin 2 → ℕ) a + S1152x512.size a ≤ S1152x4608.size a)
    (ig : ∀ a, (![0, 0, o] : Fin 3 → ℕ) a + S1x1x512.size a ≤ S1x1x4608.size a)
    (ib : ∀ a, (![0, o] : Fin 2 → ℕ) a + S1x512.size a ≤ S1x4608.size a)
    (ir : ∀ a, (![0, o] : Fin 2 → ℕ) a + S256x512.size a ≤ S512x4608.size a) (j : S256x512.Idx) :
    Stage.yV (kernelRun0_A.sl.v252 c arg1 harg1 arg2 harg2 arg3 harg3 arg10 x0 x1 x2) (kernelRun0_A.sl.v250 c arg1 harg1 arg2 harg2 arg3 harg3 arg14 x0 x1 x2)
      (wL arg6 harg6 x5 o iw) (gL arg4 harg4 x3 o ig) (bL arg8 harg8 x7 o ib) (sL arg7 harg7 x6 o ib)
      (rL arg5 harg5 x4 0 o ir) j = (rowAt x0 x1 x2 x3 x4 x5 x6 x7 (row 0 (by norm_num) (j 0))).y (Row.col cc (j 1)) :=
  y_half arg4 harg4 arg5 harg5 arg6 harg6 arg7 harg7 arg8 harg8 x0 x1 x2 x3 x4 x5 x6 x7 0 (by norm_num) cc o ho
    (read_codes0 c arg1 harg1 arg2 harg2 arg3 harg3 x0 x1 x2 arg10)
    (read_scales0 c arg1 harg1 arg2 harg2 arg3 harg3 x0 x1 x2 arg14) iw ig ib ir j

/-- A chunk of the half from row 256. -/
theorem y_chunk1 (cc : Fin 9) (o : ℕ) (ho : o = 512 * cc.val)
    (iw : ∀ a, (![0, o] : Fin 2 → ℕ) a + S1152x512.size a ≤ S1152x4608.size a)
    (ig : ∀ a, (![0, 0, o] : Fin 3 → ℕ) a + S1x1x512.size a ≤ S1x1x4608.size a)
    (ib : ∀ a, (![0, o] : Fin 2 → ℕ) a + S1x512.size a ≤ S1x4608.size a)
    (ir : ∀ a, (![256, o] : Fin 2 → ℕ) a + S256x512.size a ≤ S512x4608.size a) (j : S256x512.Idx) :
    Stage.yV (kernelRun0_A.sl.v763 c arg1 harg1 arg2 harg2 arg3 harg3 arg10 x0 x1 x2) (kernelRun0_A.sl.v761 c arg1 harg1 arg2 harg2 arg3 harg3 arg14 x0 x1 x2)
      (wL arg6 harg6 x5 o iw) (gL arg4 harg4 x3 o ig) (bL arg8 harg8 x7 o ib) (sL arg7 harg7 x6 o ib)
      (rL arg5 harg5 x4 256 o ir) j = (rowAt x0 x1 x2 x3 x4 x5 x6 x7 (row 256 (by norm_num) (j 0))).y (Row.col cc (j 1)) :=
  y_half arg4 harg4 arg5 harg5 arg6 harg6 arg7 harg7 arg8 harg8 x0 x1 x2 x3 x4 x5 x6 x7 256 (by norm_num) cc o ho
    (read_codes1 c arg1 harg1 arg2 harg2 arg3 harg3 x0 x1 x2 arg10)
    (read_scales1 c arg1 harg1 arg2 harg2 arg3 harg3 x0 x1 x2 arg14) iw ig ib ir j

/-- The chunks stored into the half from row 0 carry the rows' results. -/
theorem y_pieces0 : ∀ p ∈ kernelRun0_A.sl.H8_9 c arg1 harg1 arg2 harg2 arg3 harg3 arg4 harg4 arg5 harg5 arg6 harg6 arg7 harg7 arg8 harg8 arg10 arg14 x0 x1 x2 x3 x4 x5 x6 x7, ∀ x : p.1.shape.Idx,
    p.2 x = yAt x0 x1 x2 x3 x4 x5 x6 x7 (p.1.emb x) := by
  unfold kernelRun0_A.sl.H8_9
  refine List.forall_mem_cons.2 ⟨fun x => ?_, ?_⟩
  · rw [emb_eq _ x (ix2 (row 0 (by norm_num) (x 0)) (Row.col 8 (x 1))) fun a => by fin_cases a <;> simp]
    have e := (congrFun (Stage.y0_4096 _ _ _ _ _ _ _) x).trans (y_chunk0 c arg1 harg1 arg2 harg2 arg3 harg3 arg4 harg4 arg5 harg5 arg6 harg6 arg7 harg7 arg8 harg8 arg10 arg14 x0 x1 x2 x3 x4 x5 x6 x7 8 4096 rfl inb_S1152x4608_S1152x512_0_4096 inb_S1x1x4608_S1x1x512_0_0_4096 inb_S1x4608_S1x512_0_4096 inb_S512x4608_S256x512_0_4096 x)
    dsimp only
    exact e
  refine List.forall_mem_cons.2 ⟨fun x => ?_, ?_⟩
  · rw [emb_eq _ x (ix2 (row 0 (by norm_num) (x 0)) (Row.col 7 (x 1))) fun a => by fin_cases a <;> simp]
    have e := (congrFun (Stage.y0_3584 _ _ _ _ _ _ _) x).trans (y_chunk0 c arg1 harg1 arg2 harg2 arg3 harg3 arg4 harg4 arg5 harg5 arg6 harg6 arg7 harg7 arg8 harg8 arg10 arg14 x0 x1 x2 x3 x4 x5 x6 x7 7 3584 rfl inb_S1152x4608_S1152x512_0_3584 inb_S1x1x4608_S1x1x512_0_0_3584 inb_S1x4608_S1x512_0_3584 inb_S512x4608_S256x512_0_3584 x)
    dsimp only
    exact e
  refine List.forall_mem_cons.2 ⟨fun x => ?_, ?_⟩
  · rw [emb_eq _ x (ix2 (row 0 (by norm_num) (x 0)) (Row.col 6 (x 1))) fun a => by fin_cases a <;> simp]
    have e := (congrFun (Stage.y0_3072 _ _ _ _ _ _ _) x).trans (y_chunk0 c arg1 harg1 arg2 harg2 arg3 harg3 arg4 harg4 arg5 harg5 arg6 harg6 arg7 harg7 arg8 harg8 arg10 arg14 x0 x1 x2 x3 x4 x5 x6 x7 6 3072 rfl inb_S1152x4608_S1152x512_0_3072 inb_S1x1x4608_S1x1x512_0_0_3072 inb_S1x4608_S1x512_0_3072 inb_S512x4608_S256x512_0_3072 x)
    dsimp only
    exact e
  refine List.forall_mem_cons.2 ⟨fun x => ?_, ?_⟩
  · rw [emb_eq _ x (ix2 (row 0 (by norm_num) (x 0)) (Row.col 5 (x 1))) fun a => by fin_cases a <;> simp]
    have e := (congrFun (Stage.y0_2560 _ _ _ _ _ _ _) x).trans (y_chunk0 c arg1 harg1 arg2 harg2 arg3 harg3 arg4 harg4 arg5 harg5 arg6 harg6 arg7 harg7 arg8 harg8 arg10 arg14 x0 x1 x2 x3 x4 x5 x6 x7 5 2560 rfl inb_S1152x4608_S1152x512_0_2560 inb_S1x1x4608_S1x1x512_0_0_2560 inb_S1x4608_S1x512_0_2560 inb_S512x4608_S256x512_0_2560 x)
    dsimp only
    exact e
  refine List.forall_mem_cons.2 ⟨fun x => ?_, ?_⟩
  · rw [emb_eq _ x (ix2 (row 0 (by norm_num) (x 0)) (Row.col 4 (x 1))) fun a => by fin_cases a <;> simp]
    have e := (congrFun (Stage.y0_2048 _ _ _ _ _ _ _) x).trans (y_chunk0 c arg1 harg1 arg2 harg2 arg3 harg3 arg4 harg4 arg5 harg5 arg6 harg6 arg7 harg7 arg8 harg8 arg10 arg14 x0 x1 x2 x3 x4 x5 x6 x7 4 2048 rfl inb_S1152x4608_S1152x512_0_2048 inb_S1x1x4608_S1x1x512_0_0_2048 inb_S1x4608_S1x512_0_2048 inb_S512x4608_S256x512_0_2048 x)
    dsimp only
    exact e
  refine List.forall_mem_cons.2 ⟨fun x => ?_, ?_⟩
  · rw [emb_eq _ x (ix2 (row 0 (by norm_num) (x 0)) (Row.col 3 (x 1))) fun a => by fin_cases a <;> simp]
    have e := (congrFun (Stage.y0_1536 _ _ _ _ _ _ _) x).trans (y_chunk0 c arg1 harg1 arg2 harg2 arg3 harg3 arg4 harg4 arg5 harg5 arg6 harg6 arg7 harg7 arg8 harg8 arg10 arg14 x0 x1 x2 x3 x4 x5 x6 x7 3 1536 rfl inb_S1152x4608_S1152x512_0_1536 inb_S1x1x4608_S1x1x512_0_0_1536 inb_S1x4608_S1x512_0_1536 inb_S512x4608_S256x512_0_1536 x)
    dsimp only
    exact e
  refine List.forall_mem_cons.2 ⟨fun x => ?_, ?_⟩
  · rw [emb_eq _ x (ix2 (row 0 (by norm_num) (x 0)) (Row.col 2 (x 1))) fun a => by fin_cases a <;> simp]
    have e := (congrFun (Stage.y0_1024 _ _ _ _ _ _ _) x).trans (y_chunk0 c arg1 harg1 arg2 harg2 arg3 harg3 arg4 harg4 arg5 harg5 arg6 harg6 arg7 harg7 arg8 harg8 arg10 arg14 x0 x1 x2 x3 x4 x5 x6 x7 2 1024 rfl inb_S1152x4608_S1152x512_0_1024 inb_S1x1x4608_S1x1x512_0_0_1024 inb_S1x4608_S1x512_0_1024 inb_S512x4608_S256x512_0_1024 x)
    dsimp only
    exact e
  refine List.forall_mem_cons.2 ⟨fun x => ?_, ?_⟩
  · rw [emb_eq _ x (ix2 (row 0 (by norm_num) (x 0)) (Row.col 1 (x 1))) fun a => by fin_cases a <;> simp]
    have e := (congrFun (Stage.y0_512 _ _ _ _ _ _ _) x).trans (y_chunk0 c arg1 harg1 arg2 harg2 arg3 harg3 arg4 harg4 arg5 harg5 arg6 harg6 arg7 harg7 arg8 harg8 arg10 arg14 x0 x1 x2 x3 x4 x5 x6 x7 1 512 rfl inb_S1152x4608_S1152x512_0_512 inb_S1x1x4608_S1x1x512_0_0_512 inb_S1x4608_S1x512_0_512 inb_S512x4608_S256x512_0_512 x)
    dsimp only
    exact e
  refine List.forall_mem_cons.2 ⟨fun x => ?_, fun _ h => absurd h List.not_mem_nil⟩
  · rw [emb_eq _ x (ix2 (row 0 (by norm_num) (x 0)) (Row.col 0 (x 1))) fun a => by fin_cases a <;> simp]
    have e := (congrFun (Stage.y0_0 _ _ _ _ _ _ _) x).trans (y_chunk0 c arg1 harg1 arg2 harg2 arg3 harg3 arg4 harg4 arg5 harg5 arg6 harg6 arg7 harg7 arg8 harg8 arg10 arg14 x0 x1 x2 x3 x4 x5 x6 x7 0 0 rfl inb_S1152x4608_S1152x512_0_0 inb_S1x1x4608_S1x1x512_0_0_0 inb_S1x4608_S1x512_0_0 inb_S512x4608_S256x512_0_0 x)
    dsimp only
    exact e

/-- The chunks stored into the half from row 256 carry the rows' results. -/
theorem y_pieces1 : ∀ p ∈ kernelRun0_A.sl.H8_18 c arg1 harg1 arg2 harg2 arg3 harg3 arg4 harg4 arg5 harg5 arg6 harg6 arg7 harg7 arg8 harg8 arg10 arg14 x0 x1 x2 x3 x4 x5 x6 x7, ∀ x : p.1.shape.Idx,
    p.2 x = yAt x0 x1 x2 x3 x4 x5 x6 x7 (p.1.emb x) := by
  unfold kernelRun0_A.sl.H8_18
  refine List.forall_mem_cons.2 ⟨fun x => ?_, ?_⟩
  · rw [emb_eq _ x (ix2 (row 256 (by norm_num) (x 0)) (Row.col 8 (x 1))) fun a => by fin_cases a <;> simp]
    have e := (congrFun (Stage.y256_4096 _ _ _ _ _ _ _) x).trans (y_chunk1 c arg1 harg1 arg2 harg2 arg3 harg3 arg4 harg4 arg5 harg5 arg6 harg6 arg7 harg7 arg8 harg8 arg10 arg14 x0 x1 x2 x3 x4 x5 x6 x7 8 4096 rfl inb_S1152x4608_S1152x512_0_4096 inb_S1x1x4608_S1x1x512_0_0_4096 inb_S1x4608_S1x512_0_4096 inb_S512x4608_S256x512_256_4096 x)
    dsimp only
    exact e
  refine List.forall_mem_cons.2 ⟨fun x => ?_, ?_⟩
  · rw [emb_eq _ x (ix2 (row 256 (by norm_num) (x 0)) (Row.col 7 (x 1))) fun a => by fin_cases a <;> simp]
    have e := (congrFun (Stage.y256_3584 _ _ _ _ _ _ _) x).trans (y_chunk1 c arg1 harg1 arg2 harg2 arg3 harg3 arg4 harg4 arg5 harg5 arg6 harg6 arg7 harg7 arg8 harg8 arg10 arg14 x0 x1 x2 x3 x4 x5 x6 x7 7 3584 rfl inb_S1152x4608_S1152x512_0_3584 inb_S1x1x4608_S1x1x512_0_0_3584 inb_S1x4608_S1x512_0_3584 inb_S512x4608_S256x512_256_3584 x)
    dsimp only
    exact e
  refine List.forall_mem_cons.2 ⟨fun x => ?_, ?_⟩
  · rw [emb_eq _ x (ix2 (row 256 (by norm_num) (x 0)) (Row.col 6 (x 1))) fun a => by fin_cases a <;> simp]
    have e := (congrFun (Stage.y256_3072 _ _ _ _ _ _ _) x).trans (y_chunk1 c arg1 harg1 arg2 harg2 arg3 harg3 arg4 harg4 arg5 harg5 arg6 harg6 arg7 harg7 arg8 harg8 arg10 arg14 x0 x1 x2 x3 x4 x5 x6 x7 6 3072 rfl inb_S1152x4608_S1152x512_0_3072 inb_S1x1x4608_S1x1x512_0_0_3072 inb_S1x4608_S1x512_0_3072 inb_S512x4608_S256x512_256_3072 x)
    dsimp only
    exact e
  refine List.forall_mem_cons.2 ⟨fun x => ?_, ?_⟩
  · rw [emb_eq _ x (ix2 (row 256 (by norm_num) (x 0)) (Row.col 5 (x 1))) fun a => by fin_cases a <;> simp]
    have e := (congrFun (Stage.y256_2560 _ _ _ _ _ _ _) x).trans (y_chunk1 c arg1 harg1 arg2 harg2 arg3 harg3 arg4 harg4 arg5 harg5 arg6 harg6 arg7 harg7 arg8 harg8 arg10 arg14 x0 x1 x2 x3 x4 x5 x6 x7 5 2560 rfl inb_S1152x4608_S1152x512_0_2560 inb_S1x1x4608_S1x1x512_0_0_2560 inb_S1x4608_S1x512_0_2560 inb_S512x4608_S256x512_256_2560 x)
    dsimp only
    exact e
  refine List.forall_mem_cons.2 ⟨fun x => ?_, ?_⟩
  · rw [emb_eq _ x (ix2 (row 256 (by norm_num) (x 0)) (Row.col 4 (x 1))) fun a => by fin_cases a <;> simp]
    have e := (congrFun (Stage.y256_2048 _ _ _ _ _ _ _) x).trans (y_chunk1 c arg1 harg1 arg2 harg2 arg3 harg3 arg4 harg4 arg5 harg5 arg6 harg6 arg7 harg7 arg8 harg8 arg10 arg14 x0 x1 x2 x3 x4 x5 x6 x7 4 2048 rfl inb_S1152x4608_S1152x512_0_2048 inb_S1x1x4608_S1x1x512_0_0_2048 inb_S1x4608_S1x512_0_2048 inb_S512x4608_S256x512_256_2048 x)
    dsimp only
    exact e
  refine List.forall_mem_cons.2 ⟨fun x => ?_, ?_⟩
  · rw [emb_eq _ x (ix2 (row 256 (by norm_num) (x 0)) (Row.col 3 (x 1))) fun a => by fin_cases a <;> simp]
    have e := (congrFun (Stage.y256_1536 _ _ _ _ _ _ _) x).trans (y_chunk1 c arg1 harg1 arg2 harg2 arg3 harg3 arg4 harg4 arg5 harg5 arg6 harg6 arg7 harg7 arg8 harg8 arg10 arg14 x0 x1 x2 x3 x4 x5 x6 x7 3 1536 rfl inb_S1152x4608_S1152x512_0_1536 inb_S1x1x4608_S1x1x512_0_0_1536 inb_S1x4608_S1x512_0_1536 inb_S512x4608_S256x512_256_1536 x)
    dsimp only
    exact e
  refine List.forall_mem_cons.2 ⟨fun x => ?_, ?_⟩
  · rw [emb_eq _ x (ix2 (row 256 (by norm_num) (x 0)) (Row.col 2 (x 1))) fun a => by fin_cases a <;> simp]
    have e := (congrFun (Stage.y256_1024 _ _ _ _ _ _ _) x).trans (y_chunk1 c arg1 harg1 arg2 harg2 arg3 harg3 arg4 harg4 arg5 harg5 arg6 harg6 arg7 harg7 arg8 harg8 arg10 arg14 x0 x1 x2 x3 x4 x5 x6 x7 2 1024 rfl inb_S1152x4608_S1152x512_0_1024 inb_S1x1x4608_S1x1x512_0_0_1024 inb_S1x4608_S1x512_0_1024 inb_S512x4608_S256x512_256_1024 x)
    dsimp only
    exact e
  refine List.forall_mem_cons.2 ⟨fun x => ?_, ?_⟩
  · rw [emb_eq _ x (ix2 (row 256 (by norm_num) (x 0)) (Row.col 1 (x 1))) fun a => by fin_cases a <;> simp]
    have e := (congrFun (Stage.y256_512 _ _ _ _ _ _ _) x).trans (y_chunk1 c arg1 harg1 arg2 harg2 arg3 harg3 arg4 harg4 arg5 harg5 arg6 harg6 arg7 harg7 arg8 harg8 arg10 arg14 x0 x1 x2 x3 x4 x5 x6 x7 1 512 rfl inb_S1152x4608_S1152x512_0_512 inb_S1x1x4608_S1x1x512_0_0_512 inb_S1x4608_S1x512_0_512 inb_S512x4608_S256x512_256_512 x)
    dsimp only
    exact e
  refine List.forall_mem_cons.2 ⟨fun x => ?_, y_pieces0 c arg1 harg1 arg2 harg2 arg3 harg3 arg4 harg4 arg5 harg5 arg6 harg6 arg7 harg7 arg8 harg8 arg10 arg14 x0 x1 x2 x3 x4 x5 x6 x7⟩
  · rw [emb_eq _ x (ix2 (row 256 (by norm_num) (x 0)) (Row.col 0 (x 1))) fun a => by fin_cases a <;> simp]
    have e := (congrFun (Stage.y256_0 _ _ _ _ _ _ _) x).trans (y_chunk1 c arg1 harg1 arg2 harg2 arg3 harg3 arg4 harg4 arg5 harg5 arg6 harg6 arg7 harg7 arg8 harg8 arg10 arg14 x0 x1 x2 x3 x4 x5 x6 x7 0 0 rfl inb_S1152x4608_S1152x512_0_0 inb_S1x1x4608_S1x1x512_0_0_0 inb_S1x4608_S1x512_0_0 inb_S512x4608_S256x512_256_0 x)
    dsimp only
    exact e

/-- The peaks of the result rows of the half from row 0. -/
theorem y_peak0 (p : Fin 256) : kernelRun0_A.sl.r_35 c arg1 harg1 arg2 harg2 arg3 harg3 arg4 harg4 arg5 harg5 arg6 harg6 arg7 harg7 arg8 harg8 arg10 arg14 x0 x1 x2 x3 x4 x5 x6 x7 (ix2 p 0) = Row.peak (rowAt x0 x1 x2 x3 x4 x5 x6 x7 (row 0 (by norm_num) p)).y := by
  unfold kernelRun0_A.sl.r_35 kernelRun0_A.sl.r_34 kernelRun0_A.sl.r_33 kernelRun0_A.sl.r_32 kernelRun0_A.sl.r_31 kernelRun0_A.sl.r_30 kernelRun0_A.sl.r_29 kernelRun0_A.sl.r_28 kernelRun0_A.sl.r_27 kernelRun0_A.sl.r_26 kernelRun0_A.sl.r_25 kernelRun0_A.sl.r_24 kernelRun0_A.sl.r_23 kernelRun0_A.sl.r_22 kernelRun0_A.sl.r_21 kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13
  rw [Stage.max_first_0, Stage.max_first_512, Stage.max_first_1024, Stage.max_first_1536, Stage.max_first_2048, Stage.max_first_3072, Stage.max_first_3584, Stage.max_first_4096]
  refine Stage.topV_apply _ p fun l => ?_
  unfold Row.laneMax
  exact (Stage.maxV_apply _ _ p l (u := fun k => (rowAt x0 x1 x2 x3 x4 x5 x6 x7 (row 0 (by norm_num) p)).y (Row.col 8 k)) (fun k => y_chunk0 c arg1 harg1 arg2 harg2 arg3 harg3 arg4 harg4 arg5 harg5 arg6 harg6 arg7 harg7 arg8 harg8 arg10 arg14 x0 x1 x2 x3 x4 x5 x6 x7 8 4096 rfl inb_S1152x4608_S1152x512_0_4096 inb_S1x1x4608_S1x1x512_0_0_4096 inb_S1x4608_S1x512_0_4096 inb_S512x4608_S256x512_0_4096 (ix2 p k))
    (Stage.maxV_apply _ _ p l (u := fun k => (rowAt x0 x1 x2 x3 x4 x5 x6 x7 (row 0 (by norm_num) p)).y (Row.col 7 k)) (fun k => y_chunk0 c arg1 harg1 arg2 harg2 arg3 harg3 arg4 harg4 arg5 harg5 arg6 harg6 arg7 harg7 arg8 harg8 arg10 arg14 x0 x1 x2 x3 x4 x5 x6 x7 7 3584 rfl inb_S1152x4608_S1152x512_0_3584 inb_S1x1x4608_S1x1x512_0_0_3584 inb_S1x4608_S1x512_0_3584 inb_S512x4608_S256x512_0_3584 (ix2 p k))
    (Stage.maxV_apply _ _ p l (u := fun k => (rowAt x0 x1 x2 x3 x4 x5 x6 x7 (row 0 (by norm_num) p)).y (Row.col 6 k)) (fun k => y_chunk0 c arg1 harg1 arg2 harg2 arg3 harg3 arg4 harg4 arg5 harg5 arg6 harg6 arg7 harg7 arg8 harg8 arg10 arg14 x0 x1 x2 x3 x4 x5 x6 x7 6 3072 rfl inb_S1152x4608_S1152x512_0_3072 inb_S1x1x4608_S1x1x512_0_0_3072 inb_S1x4608_S1x512_0_3072 inb_S512x4608_S256x512_0_3072 (ix2 p k))
    (Stage.maxV_apply _ _ p l (u := fun k => (rowAt x0 x1 x2 x3 x4 x5 x6 x7 (row 0 (by norm_num) p)).y (Row.col 5 k)) (fun k => y_chunk0 c arg1 harg1 arg2 harg2 arg3 harg3 arg4 harg4 arg5 harg5 arg6 harg6 arg7 harg7 arg8 harg8 arg10 arg14 x0 x1 x2 x3 x4 x5 x6 x7 5 2560 rfl inb_S1152x4608_S1152x512_0_2560 inb_S1x1x4608_S1x1x512_0_0_2560 inb_S1x4608_S1x512_0_2560 inb_S512x4608_S256x512_0_2560 (ix2 p k))
    (Stage.maxV_apply _ _ p l (u := fun k => (rowAt x0 x1 x2 x3 x4 x5 x6 x7 (row 0 (by norm_num) p)).y (Row.col 4 k)) (fun k => y_chunk0 c arg1 harg1 arg2 harg2 arg3 harg3 arg4 harg4 arg5 harg5 arg6 harg6 arg7 harg7 arg8 harg8 arg10 arg14 x0 x1 x2 x3 x4 x5 x6 x7 4 2048 rfl inb_S1152x4608_S1152x512_0_2048 inb_S1x1x4608_S1x1x512_0_0_2048 inb_S1x4608_S1x512_0_2048 inb_S512x4608_S256x512_0_2048 (ix2 p k))
    (Stage.maxV_apply _ _ p l (u := fun k => (rowAt x0 x1 x2 x3 x4 x5 x6 x7 (row 0 (by norm_num) p)).y (Row.col 3 k)) (fun k => y_chunk0 c arg1 harg1 arg2 harg2 arg3 harg3 arg4 harg4 arg5 harg5 arg6 harg6 arg7 harg7 arg8 harg8 arg10 arg14 x0 x1 x2 x3 x4 x5 x6 x7 3 1536 rfl inb_S1152x4608_S1152x512_0_1536 inb_S1x1x4608_S1x1x512_0_0_1536 inb_S1x4608_S1x512_0_1536 inb_S512x4608_S256x512_0_1536 (ix2 p k))
    (Stage.maxV_apply _ _ p l (u := fun k => (rowAt x0 x1 x2 x3 x4 x5 x6 x7 (row 0 (by norm_num) p)).y (Row.col 2 k)) (fun k => y_chunk0 c arg1 harg1 arg2 harg2 arg3 harg3 arg4 harg4 arg5 harg5 arg6 harg6 arg7 harg7 arg8 harg8 arg10 arg14 x0 x1 x2 x3 x4 x5 x6 x7 2 1024 rfl inb_S1152x4608_S1152x512_0_1024 inb_S1x1x4608_S1x1x512_0_0_1024 inb_S1x4608_S1x512_0_1024 inb_S512x4608_S256x512_0_1024 (ix2 p k))
    (Stage.maxV_apply _ _ p l (u := fun k => (rowAt x0 x1 x2 x3 x4 x5 x6 x7 (row 0 (by norm_num) p)).y (Row.col 1 k)) (fun k => y_chunk0 c arg1 harg1 arg2 harg2 arg3 harg3 arg4 harg4 arg5 harg5 arg6 harg6 arg7 harg7 arg8 harg8 arg10 arg14 x0 x1 x2 x3 x4 x5 x6 x7 1 512 rfl inb_S1152x4608_S1152x512_0_512 inb_S1x1x4608_S1x1x512_0_0_512 inb_S1x4608_S1x512_0_512 inb_S512x4608_S256x512_0_512 (ix2 p k))
    (Stage.maxV_apply _ _ p l (u := fun k => (rowAt x0 x1 x2 x3 x4 x5 x6 x7 (row 0 (by norm_num) p)).y (Row.col 0 k)) (fun k => y_chunk0 c arg1 harg1 arg2 harg2 arg3 harg3 arg4 harg4 arg5 harg5 arg6 harg6 arg7 harg7 arg8 harg8 arg10 arg14 x0 x1 x2 x3 x4 x5 x6 x7 0 0 rfl inb_S1152x4608_S1152x512_0_0 inb_S1x1x4608_S1x1x512_0_0_0 inb_S1x4608_S1x512_0_0 inb_S512x4608_S256x512_0_0 (ix2 p k))
    (Stage.start_apply _))))))))))

/-- The peaks of the result rows of the half from row 256. -/
theorem y_peak1 (p : Fin 256) : kernelRun0_A.sl.r_65 c arg1 harg1 arg2 harg2 arg3 harg3 arg4 harg4 arg5 harg5 arg6 harg6 arg7 harg7 arg8 harg8 arg10 arg14 x0 x1 x2 x3 x4 x5 x6 x7 (ix2 p 0) = Row.peak (rowAt x0 x1 x2 x3 x4 x5 x6 x7 (row 256 (by norm_num) p)).y := by
  unfold kernelRun0_A.sl.r_65 kernelRun0_A.sl.r_64 kernelRun0_A.sl.r_63 kernelRun0_A.sl.r_62 kernelRun0_A.sl.r_61 kernelRun0_A.sl.r_60 kernelRun0_A.sl.r_59 kernelRun0_A.sl.r_58 kernelRun0_A.sl.r_57 kernelRun0_A.sl.r_56 kernelRun0_A.sl.r_55 kernelRun0_A.sl.r_54 kernelRun0_A.sl.r_53 kernelRun0_A.sl.r_52 kernelRun0_A.sl.r_51 kernelRun0_A.sl.r_50 kernelRun0_A.sl.r_49 kernelRun0_A.sl.r_48 kernelRun0_A.sl.r_47 kernelRun0_A.sl.r_46 kernelRun0_A.sl.r_45 kernelRun0_A.sl.r_44
  rw [Stage.max_second_0, Stage.max_second_512, Stage.max_second_2048, Stage.max_second_2560, Stage.max_second_3072, Stage.max_second_3584, Stage.max_second_4096]
  refine Stage.topV_apply _ p fun l => ?_
  unfold Row.laneMax
  exact (Stage.maxV_apply _ _ p l (u := fun k => (rowAt x0 x1 x2 x3 x4 x5 x6 x7 (row 256 (by norm_num) p)).y (Row.col 8 k)) (fun k => y_chunk1 c arg1 harg1 arg2 harg2 arg3 harg3 arg4 harg4 arg5 harg5 arg6 harg6 arg7 harg7 arg8 harg8 arg10 arg14 x0 x1 x2 x3 x4 x5 x6 x7 8 4096 rfl inb_S1152x4608_S1152x512_0_4096 inb_S1x1x4608_S1x1x512_0_0_4096 inb_S1x4608_S1x512_0_4096 inb_S512x4608_S256x512_256_4096 (ix2 p k))
    (Stage.maxV_apply _ _ p l (u := fun k => (rowAt x0 x1 x2 x3 x4 x5 x6 x7 (row 256 (by norm_num) p)).y (Row.col 7 k)) (fun k => y_chunk1 c arg1 harg1 arg2 harg2 arg3 harg3 arg4 harg4 arg5 harg5 arg6 harg6 arg7 harg7 arg8 harg8 arg10 arg14 x0 x1 x2 x3 x4 x5 x6 x7 7 3584 rfl inb_S1152x4608_S1152x512_0_3584 inb_S1x1x4608_S1x1x512_0_0_3584 inb_S1x4608_S1x512_0_3584 inb_S512x4608_S256x512_256_3584 (ix2 p k))
    (Stage.maxV_apply _ _ p l (u := fun k => (rowAt x0 x1 x2 x3 x4 x5 x6 x7 (row 256 (by norm_num) p)).y (Row.col 6 k)) (fun k => y_chunk1 c arg1 harg1 arg2 harg2 arg3 harg3 arg4 harg4 arg5 harg5 arg6 harg6 arg7 harg7 arg8 harg8 arg10 arg14 x0 x1 x2 x3 x4 x5 x6 x7 6 3072 rfl inb_S1152x4608_S1152x512_0_3072 inb_S1x1x4608_S1x1x512_0_0_3072 inb_S1x4608_S1x512_0_3072 inb_S512x4608_S256x512_256_3072 (ix2 p k))
    (Stage.maxV_apply _ _ p l (u := fun k => (rowAt x0 x1 x2 x3 x4 x5 x6 x7 (row 256 (by norm_num) p)).y (Row.col 5 k)) (fun k => y_chunk1 c arg1 harg1 arg2 harg2 arg3 harg3 arg4 harg4 arg5 harg5 arg6 harg6 arg7 harg7 arg8 harg8 arg10 arg14 x0 x1 x2 x3 x4 x5 x6 x7 5 2560 rfl inb_S1152x4608_S1152x512_0_2560 inb_S1x1x4608_S1x1x512_0_0_2560 inb_S1x4608_S1x512_0_2560 inb_S512x4608_S256x512_256_2560 (ix2 p k))
    (Stage.maxV_apply _ _ p l (u := fun k => (rowAt x0 x1 x2 x3 x4 x5 x6 x7 (row 256 (by norm_num) p)).y (Row.col 4 k)) (fun k => y_chunk1 c arg1 harg1 arg2 harg2 arg3 harg3 arg4 harg4 arg5 harg5 arg6 harg6 arg7 harg7 arg8 harg8 arg10 arg14 x0 x1 x2 x3 x4 x5 x6 x7 4 2048 rfl inb_S1152x4608_S1152x512_0_2048 inb_S1x1x4608_S1x1x512_0_0_2048 inb_S1x4608_S1x512_0_2048 inb_S512x4608_S256x512_256_2048 (ix2 p k))
    (Stage.maxV_apply _ _ p l (u := fun k => (rowAt x0 x1 x2 x3 x4 x5 x6 x7 (row 256 (by norm_num) p)).y (Row.col 3 k)) (fun k => y_chunk1 c arg1 harg1 arg2 harg2 arg3 harg3 arg4 harg4 arg5 harg5 arg6 harg6 arg7 harg7 arg8 harg8 arg10 arg14 x0 x1 x2 x3 x4 x5 x6 x7 3 1536 rfl inb_S1152x4608_S1152x512_0_1536 inb_S1x1x4608_S1x1x512_0_0_1536 inb_S1x4608_S1x512_0_1536 inb_S512x4608_S256x512_256_1536 (ix2 p k))
    (Stage.maxV_apply _ _ p l (u := fun k => (rowAt x0 x1 x2 x3 x4 x5 x6 x7 (row 256 (by norm_num) p)).y (Row.col 2 k)) (fun k => y_chunk1 c arg1 harg1 arg2 harg2 arg3 harg3 arg4 harg4 arg5 harg5 arg6 harg6 arg7 harg7 arg8 harg8 arg10 arg14 x0 x1 x2 x3 x4 x5 x6 x7 2 1024 rfl inb_S1152x4608_S1152x512_0_1024 inb_S1x1x4608_S1x1x512_0_0_1024 inb_S1x4608_S1x512_0_1024 inb_S512x4608_S256x512_256_1024 (ix2 p k))
    (Stage.maxV_apply _ _ p l (u := fun k => (rowAt x0 x1 x2 x3 x4 x5 x6 x7 (row 256 (by norm_num) p)).y (Row.col 1 k)) (fun k => y_chunk1 c arg1 harg1 arg2 harg2 arg3 harg3 arg4 harg4 arg5 harg5 arg6 harg6 arg7 harg7 arg8 harg8 arg10 arg14 x0 x1 x2 x3 x4 x5 x6 x7 1 512 rfl inb_S1152x4608_S1152x512_0_512 inb_S1x1x4608_S1x1x512_0_0_512 inb_S1x4608_S1x512_0_512 inb_S512x4608_S256x512_256_512 (ix2 p k))
    (Stage.maxV_apply _ _ p l (u := fun k => (rowAt x0 x1 x2 x3 x4 x5 x6 x7 (row 256 (by norm_num) p)).y (Row.col 0 k)) (fun k => y_chunk1 c arg1 harg1 arg2 harg2 arg3 harg3 arg4 harg4 arg5 harg5 arg6 harg6 arg7 harg7 arg8 harg8 arg10 arg14 x0 x1 x2 x3 x4 x5 x6 x7 0 0 rfl inb_S1152x4608_S1152x512_0_0 inb_S1x1x4608_S1x1x512_0_0_0 inb_S1x4608_S1x512_0_0 inb_S512x4608_S256x512_256_0 (ix2 p k))
    ((congrFun Stage.start_eq _).trans (Stage.start_apply _)))))))))))

end

end Cert.Block
-- ==== Proof.OutBlock.lean ====
/-
  What one grid point leaves in each of its five result blocks, at every index: the row's result, the codes and the
  scale of the normalised row, and the codes and the scale of the result row.
-/
module

public import proofs.«01_k».proof.Proof.YBlock

@[expose] public section

set_option maxRecDepth 16384

noncomputable section

open Idealize.ShloMosaic Cert.KernelIdeal Cert.KernelIdeal.Gen

namespace Cert.Block

/-- The result's code at an index of the block. -/
def yCodeAt (x0 : Vec Ideal S512x1152 .bf16)
  (x1 : Vec Ideal S1x1x1152 .bf16)
  (x2 : Vec Ideal S1x1x1152 .bf16)
  (x3 : Vec Ideal S1x1x4608 .bf16)
  (x4 : Vec Ideal S512x4608 .bf16)
  (x5 : Vec Ideal S1152x4608 .fp8e4m3)
  (x6 : Vec Ideal S1x4608 .f32)
  (x7 : Vec Ideal S1x4608 .bf16) (y : S512x4608.Idx) : EReal := (rowAt x0 x1 x2 x3 x4 x5 x6 x7 (y 0)).yCode (y 1)

/-- The row of a block behind an index of a scale block. -/
def lineRow (y : S1x4x128.Idx) : Fin 512 := ⟨128 * (y 1).val + (y 2).val, by
  have h1 : (y 1).val < 4 := (y 1).isLt
  have h2 : (y 2).val < 128 := (y 2).isLt
  omega⟩

theorem line_eq (q : ℕ) (inb : ∀ a, (![0, q, 0] : Fin 3 → ℕ) a + S1x2x128.size a ≤ S1x4x128.size a) (x : S1x2x128.Idx) :
    (lineRow ((Rect.unit (s := S1x4x128) ![0, q, 0] S1x2x128.size inb).emb x)).val = 128 * (q + (x 1).val) + (x 2).val := by
  show 128 * (q + 1 * (x 1).val) + (0 + 1 * (x 2).val) = _
  omega

/-- The scale of the row behind an index of a scale block: 128 rows to a line. -/
def hTileAt (x0 : Vec Ideal S512x1152 .bf16) (x1 x2 : Vec Ideal S1x1x1152 .bf16) (y : S1x4x128.Idx) : EReal :=
  hScaleAt x0 x1 x2 (lineRow y)

/-- The scale of the result row behind an index of a scale block. -/
def yTileAt (x0 : Vec Ideal S512x1152 .bf16)
  (x1 : Vec Ideal S1x1x1152 .bf16)
  (x2 : Vec Ideal S1x1x1152 .bf16)
  (x3 : Vec Ideal S1x1x4608 .bf16)
  (x4 : Vec Ideal S512x4608 .bf16)
  (x5 : Vec Ideal S1152x4608 .fp8e4m3)
  (x6 : Vec Ideal S1x4608 .f32)
  (x7 : Vec Ideal S1x4608 .bf16) (y : S1x4x128.Idx) : EReal :=
  (rowAt x0 x1 x2 x3 x4 x5 x6 x7 (lineRow y)).yScale

/-- A scale block's two lines of a half from the half's scale column. -/
theorem tile_half (G : Fin 512 → EReal) (r : ℕ) (hr : r + 256 ≤ 512) (q : ℕ) (hq : r = 128 * q)
    {s : FVec Ideal S256x1 .f32} (hs : ∀ p, s (ix2 p 0) = G (row r hr p)) (x : S1x2x128.Idx) (n : Fin 512)
    (hn : n.val = 128 * (q + (x 1).val) + (x 2).val) : Stage.tileV s x = G n := by
  refine (Stage.tileV_apply s x).trans ((hs _).trans (congrArg G (Fin.ext ?_)))
  show r + ((x 1).val * 128 + (x 2).val) = n.val
  omega

/-- An index in a chunk's range of rows and of columns is in the chunk. -/
theorem mem_chunk (r o : ℕ) (inb : ∀ a, (![r, o] : Fin 2 → ℕ) a + S256x512.size a ≤ S512x4608.size a) (y : S512x4608.Idx)
    (h0 : r ≤ (y 0).val) (h1 : (y 0).val < r + 256) (h2 : o ≤ (y 1).val) (h3 : (y 1).val < o + 512) :
    y ∈ (Rect.unit (s := S512x4608) ![r, o] S256x512.size inb).set :=
  mem_unit inb y fun a => by fin_cases a <;> [exact ⟨h0, h1⟩; exact ⟨h2, h3⟩]

section

variable (c : Dev nD)
  (arg1 : Memref sig .tc .vmem S512x1152 .bf16) (harg1 : arg1.IsWhole)
  (arg2 : Memref sig .tc .vmem S1x1x1152 .bf16) (harg2 : arg2.IsWhole)
  (arg3 : Memref sig .tc .vmem S1x1x1152 .bf16) (harg3 : arg3.IsWhole)
  (arg4 : Memref sig .tc .vmem S1x1x4608 .bf16) (harg4 : arg4.IsWhole)
  (arg5 : Memref sig .tc .vmem S512x4608 .bf16) (harg5 : arg5.IsWhole)
  (arg6 : Memref sig .tc .vmem S1152x4608 .fp8e4m3) (harg6 : arg6.IsWhole)
  (arg7 : Memref sig .tc .vmem S1x4608 .f32) (harg7 : arg7.IsWhole)
  (arg8 : Memref sig .tc .vmem S1x4608 .bf16) (harg8 : arg8.IsWhole)
  (x0 : Vec Ideal S512x1152 .bf16)
  (x1 : Vec Ideal S1x1x1152 .bf16)
  (x2 : Vec Ideal S1x1x1152 .bf16)
  (x3 : Vec Ideal S1x1x4608 .bf16)
  (x4 : Vec Ideal S512x4608 .bf16)
  (x5 : Vec Ideal S1152x4608 .fp8e4m3)
  (x6 : Vec Ideal S1x4608 .f32)
  (x7 : Vec Ideal S1x4608 .bf16)

/-- The codes of one chunk of a half, from the half's peak column and the chunk read back. -/
theorem code_chunk (r : ℕ) (hr : r + 256 ≤ 512) (cc : Fin 9) {a : FVec Ideal S256x1 .f32} {v : Vec Ideal S256x512 .bf16}
    (ha : ∀ p, a (ix2 p 0) = Row.peak (rowAt x0 x1 x2 x3 x4 x5 x6 x7 (row r hr p)).y)
    (hv : ∀ j : S256x512.Idx, v j = yAt x0 x1 x2 x3 x4 x5 x6 x7 (ix2 (row r hr (j 0)) (Row.col cc (j 1)))) (j : S256x512.Idx) :
    Stage.yCodeI (Stage.invB a) v j = yCodeAt x0 x1 x2 x3 x4 x5 x6 x7 (ix2 (row r hr (j 0)) (Row.col cc (j 1))) :=
  (Stage.yCodeI_apply a v j ((Row.peak_nonneg _).trans (ha (j 0)).ge)).trans (congrArg₂ Row.code (ha (j 0)) (hv j))

variable (arg9 : Memref sig .tc .vmem S512x4608 .bf16) (arg10 : Memref sig .tc .vmem S512x1152 .fp8e4m3)
  (arg14 : Memref sig .tc .vmem S512x128 .f32)

theorem read_y0_0 (j : S256x512.Idx) : kernelRun0_A.sl.v649 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 0 (by norm_num) (j 0)) (Row.col 0 (j 1))) := by
  unfold kernelRun0_A.sl.v649
  refine readCov_apply (e := .bf16) _ _ (yAt x0 x1 x2 x3 x4 x5 x6 x7) (y_pieces0 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_chunk 0 0 inb_S512x4608_S256x512_0_0 _ (Nat.le_add_right _ _) (Nat.add_lt_add_left (j 0).isLt _)
    (Nat.le_add_right _ _) (Nat.add_lt_add_left (j 1).isLt _)⟩

theorem read_y0_1 (j : S256x512.Idx) : kernelRun0_A.sl.v661 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 0 (by norm_num) (j 0)) (Row.col 1 (j 1))) := by
  unfold kernelRun0_A.sl.v661
  refine readCov_apply (e := .bf16) _ _ (yAt x0 x1 x2 x3 x4 x5 x6 x7) (y_pieces0 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_chunk 0 512 inb_S512x4608_S256x512_0_512 _ (Nat.le_add_right _ _) (Nat.add_lt_add_left (j 0).isLt _)
    (Nat.le_add_right _ _) (Nat.add_lt_add_left (j 1).isLt _)⟩

theorem read_y0_2 (j : S256x512.Idx) : kernelRun0_A.sl.v673 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 0 (by norm_num) (j 0)) (Row.col 2 (j 1))) := by
  unfold kernelRun0_A.sl.v673
  refine readCov_apply (e := .bf16) _ _ (yAt x0 x1 x2 x3 x4 x5 x6 x7) (y_pieces0 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ (List.mem_cons_of_mem _ (List.mem_cons_of_mem _ (List.mem_cons_of_mem _ (List.mem_cons_of_mem _ List.mem_cons_self))))), mem_chunk 0 1024 inb_S512x4608_S256x512_0_1024 _ (Nat.le_add_right _ _) (Nat.add_lt_add_left (j 0).isLt _)
    (Nat.le_add_right _ _) (Nat.add_lt_add_left (j 1).isLt _)⟩

theorem read_y0_3 (j : S256x512.Idx) : kernelRun0_A.sl.v685 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 0 (by norm_num) (j 0)) (Row.col 3 (j 1))) := by
  unfold kernelRun0_A.sl.v685
  refine readCov_apply (e := .bf16) _ _ (yAt x0 x1 x2 x3 x4 x5 x6 x7) (y_pieces0 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ (List.mem_cons_of_mem _ (List.mem_cons_of_mem _ (List.mem_cons_of_mem _ List.mem_cons_self)))), mem_chunk 0 1536 inb_S512x4608_S256x512_0_1536 _ (Nat.le_add_right _ _) (Nat.add_lt_add_left (j 0).isLt _)
    (Nat.le_add_right _ _) (Nat.add_lt_add_left (j 1).isLt _)⟩

theorem read_y0_4 (j : S256x512.Idx) : kernelRun0_A.sl.v697 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 0 (by norm_num) (j 0)) (Row.col 4 (j 1))) := by
  unfold kernelRun0_A.sl.v697
  refine readCov_apply (e := .bf16) _ _ (yAt x0 x1 x2 x3 x4 x5 x6 x7) (y_pieces0 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ (List.mem_cons_of_mem _ (List.mem_cons_of_mem _ List.mem_cons_self))), mem_chunk 0 2048 inb_S512x4608_S256x512_0_2048 _ (Nat.le_add_right _ _) (Nat.add_lt_add_left (j 0).isLt _)
    (Nat.le_add_right _ _) (Nat.add_lt_add_left (j 1).isLt _)⟩

theorem read_y0_5 (j : S256x512.Idx) : kernelRun0_A.sl.v709 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 0 (by norm_num) (j 0)) (Row.col 5 (j 1))) := by
  unfold kernelRun0_A.sl.v709
  refine readCov_apply (e := .bf16) _ _ (yAt x0 x1 x2 x3 x4 x5 x6 x7) (y_pieces0 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ (List.mem_cons_of_mem _ List.mem_cons_self)), mem_chunk 0 2560 inb_S512x4608_S256x512_0_2560 _ (Nat.le_add_right _ _) (Nat.add_lt_add_left (j 0).isLt _)
    (Nat.le_add_right _ _) (Nat.add_lt_add_left (j 1).isLt _)⟩

theorem read_y0_6 (j : S256x512.Idx) : kernelRun0_A.sl.v721 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 0 (by norm_num) (j 0)) (Row.col 6 (j 1))) := by
  unfold kernelRun0_A.sl.v721
  refine readCov_apply (e := .bf16) _ _ (yAt x0 x1 x2 x3 x4 x5 x6 x7) (y_pieces0 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ List.mem_cons_self), mem_chunk 0 3072 inb_S512x4608_S256x512_0_3072 _ (Nat.le_add_right _ _) (Nat.add_lt_add_left (j 0).isLt _)
    (Nat.le_add_right _ _) (Nat.add_lt_add_left (j 1).isLt _)⟩

theorem read_y0_7 (j : S256x512.Idx) : kernelRun0_A.sl.v733 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 0 (by norm_num) (j 0)) (Row.col 7 (j 1))) := by
  unfold kernelRun0_A.sl.v733
  refine readCov_apply (e := .bf16) _ _ (yAt x0 x1 x2 x3 x4 x5 x6 x7) (y_pieces0 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ List.mem_cons_self, mem_chunk 0 3584 inb_S512x4608_S256x512_0_3584 _ (Nat.le_add_right _ _) (Nat.add_lt_add_left (j 0).isLt _)
    (Nat.le_add_right _ _) (Nat.add_lt_add_left (j 1).isLt _)⟩

theorem read_y0_8 (j : S256x512.Idx) : kernelRun0_A.sl.v745 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 0 (by norm_num) (j 0)) (Row.col 8 (j 1))) := by
  unfold kernelRun0_A.sl.v745
  refine readCov_apply (e := .bf16) _ _ (yAt x0 x1 x2 x3 x4 x5 x6 x7) (y_pieces0 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_self, mem_chunk 0 4096 inb_S512x4608_S256x512_0_4096 _ (Nat.le_add_right _ _) (Nat.add_lt_add_left (j 0).isLt _)
    (Nat.le_add_right _ _) (Nat.add_lt_add_left (j 1).isLt _)⟩

theorem read_y1_0 (j : S256x512.Idx) : kernelRun0_A.sl.v1160 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 256 (by norm_num) (j 0)) (Row.col 0 (j 1))) := by
  unfold kernelRun0_A.sl.v1160
  refine readCov_apply (e := .bf16) _ _ (yAt x0 x1 x2 x3 x4 x5 x6 x7) (y_pieces1 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_chunk 256 0 inb_S512x4608_S256x512_256_0 _ (Nat.le_add_right _ _) (Nat.add_lt_add_left (j 0).isLt _)
    (Nat.le_add_right _ _) (Nat.add_lt_add_left (j 1).isLt _)⟩

theorem read_y1_1 (j : S256x512.Idx) : kernelRun0_A.sl.v1172 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 256 (by norm_num) (j 0)) (Row.col 1 (j 1))) := by
  unfold kernelRun0_A.sl.v1172
  refine readCov_apply (e := .bf16) _ _ (yAt x0 x1 x2 x3 x4 x5 x6 x7) (y_pieces1 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_chunk 256 512 inb_S512x4608_S256x512_256_512 _ (Nat.le_add_right _ _) (Nat.add_lt_add_left (j 0).isLt _)
    (Nat.le_add_right _ _) (Nat.add_lt_add_left (j 1).isLt _)⟩

theorem read_y1_2 (j : S256x512.Idx) : kernelRun0_A.sl.v1184 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 256 (by norm_num) (j 0)) (Row.col 2 (j 1))) := by
  unfold kernelRun0_A.sl.v1184
  refine readCov_apply (e := .bf16) _ _ (yAt x0 x1 x2 x3 x4 x5 x6 x7) (y_pieces1 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ (List.mem_cons_of_mem _ (List.mem_cons_of_mem _ (List.mem_cons_of_mem _ (List.mem_cons_of_mem _ List.mem_cons_self))))), mem_chunk 256 1024 inb_S512x4608_S256x512_256_1024 _ (Nat.le_add_right _ _) (Nat.add_lt_add_left (j 0).isLt _)
    (Nat.le_add_right _ _) (Nat.add_lt_add_left (j 1).isLt _)⟩

theorem read_y1_3 (j : S256x512.Idx) : kernelRun0_A.sl.v1196 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 256 (by norm_num) (j 0)) (Row.col 3 (j 1))) := by
  unfold kernelRun0_A.sl.v1196
  refine readCov_apply (e := .bf16) _ _ (yAt x0 x1 x2 x3 x4 x5 x6 x7) (y_pieces1 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ (List.mem_cons_of_mem _ (List.mem_cons_of_mem _ (List.mem_cons_of_mem _ List.mem_cons_self)))), mem_chunk 256 1536 inb_S512x4608_S256x512_256_1536 _ (Nat.le_add_right _ _) (Nat.add_lt_add_left (j 0).isLt _)
    (Nat.le_add_right _ _) (Nat.add_lt_add_left (j 1).isLt _)⟩

theorem read_y1_4 (j : S256x512.Idx) : kernelRun0_A.sl.v1208 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 256 (by norm_num) (j 0)) (Row.col 4 (j 1))) := by
  unfold kernelRun0_A.sl.v1208
  refine readCov_apply (e := .bf16) _ _ (yAt x0 x1 x2 x3 x4 x5 x6 x7) (y_pieces1 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ (List.mem_cons_of_mem _ (List.mem_cons_of_mem _ List.mem_cons_self))), mem_chunk 256 2048 inb_S512x4608_S256x512_256_2048 _ (Nat.le_add_right _ _) (Nat.add_lt_add_left (j 0).isLt _)
    (Nat.le_add_right _ _) (Nat.add_lt_add_left (j 1).isLt _)⟩

theorem read_y1_5 (j : S256x512.Idx) : kernelRun0_A.sl.v1220 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 256 (by norm_num) (j 0)) (Row.col 5 (j 1))) := by
  unfold kernelRun0_A.sl.v1220
  refine readCov_apply (e := .bf16) _ _ (yAt x0 x1 x2 x3 x4 x5 x6 x7) (y_pieces1 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ (List.mem_cons_of_mem _ List.mem_cons_self)), mem_chunk 256 2560 inb_S512x4608_S256x512_256_2560 _ (Nat.le_add_right _ _) (Nat.add_lt_add_left (j 0).isLt _)
    (Nat.le_add_right _ _) (Nat.add_lt_add_left (j 1).isLt _)⟩

theorem read_y1_6 (j : S256x512.Idx) : kernelRun0_A.sl.v1232 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 256 (by norm_num) (j 0)) (Row.col 6 (j 1))) := by
  unfold kernelRun0_A.sl.v1232
  refine readCov_apply (e := .bf16) _ _ (yAt x0 x1 x2 x3 x4 x5 x6 x7) (y_pieces1 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ (List.mem_cons_of_mem _ List.mem_cons_self), mem_chunk 256 3072 inb_S512x4608_S256x512_256_3072 _ (Nat.le_add_right _ _) (Nat.add_lt_add_left (j 0).isLt _)
    (Nat.le_add_right _ _) (Nat.add_lt_add_left (j 1).isLt _)⟩

theorem read_y1_7 (j : S256x512.Idx) : kernelRun0_A.sl.v1244 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 256 (by norm_num) (j 0)) (Row.col 7 (j 1))) := by
  unfold kernelRun0_A.sl.v1244
  refine readCov_apply (e := .bf16) _ _ (yAt x0 x1 x2 x3 x4 x5 x6 x7) (y_pieces1 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_of_mem _ List.mem_cons_self, mem_chunk 256 3584 inb_S512x4608_S256x512_256_3584 _ (Nat.le_add_right _ _) (Nat.add_lt_add_left (j 0).isLt _)
    (Nat.le_add_right _ _) (Nat.add_lt_add_left (j 1).isLt _)⟩

theorem read_y1_8 (j : S256x512.Idx) : kernelRun0_A.sl.v1256 c arg1 harg1 arg2 harg2 arg3 harg3 arg4 harg4 arg5 harg5 arg6 harg6 arg7 harg7 arg8 harg8 arg9 arg10 arg14 x0 x1 x2 x3 x4 x5 x6 x7 j
    = yAt x0 x1 x2 x3 x4 x5 x6 x7 (ix2 (row 256 (by norm_num) (j 0)) (Row.col 8 (j 1))) := by
  unfold kernelRun0_A.sl.v1256
  refine readCov_apply (e := .bf16) _ _ (yAt x0 x1 x2 x3 x4 x5 x6 x7) (y_pieces1 c arg1 harg1 arg2 harg2 arg3 harg3 arg4 harg4 arg5 harg5 arg6 harg6 arg7 harg7 arg8 harg8 arg10 arg14 x0 x1 x2 x3 x4 x5 x6 x7) _ _ _
    (fun a => by fin_cases a <;> simp) ?_
  exact ⟨_, List.mem_cons_self, mem_chunk 256 4096 inb_S512x4608_S256x512_256_4096 _ (Nat.le_add_right _ _) (Nat.add_lt_add_left (j 0).isLt _)
    (Nat.le_add_right _ _) (Nat.add_lt_add_left (j 1).isLt _)⟩

theorem yfield0 : kernelRun0_A.sl.r_37 c arg1 harg1 arg2 harg2 arg3 harg3 arg4 harg4 arg5 harg5 arg6 harg6 arg7 harg7 arg8 harg8 arg10 arg14 x0 x1 x2 x3 x4 x5 x6 x7 = Stage.field7 (kernelRun0_A.sl.r_35 c arg1 harg1 arg2 harg2 arg3 harg3 arg4 harg4 arg5 harg5 arg6 harg6 arg7 harg7 arg8 harg8 arg10 arg14 x0 x1 x2 x3 x4 x5 x6 x7) := by
  unfold kernelRun0_A.sl.r_37 kernelRun0_A.sl.r_36 kernelRun0_A.sl.r_35
  exact Stage.field_first _ _ _ _ _ _ _

theorem ylast0 : kernelRun0_A.sl.r_38 c arg1 harg1 arg2 harg2 arg3 harg3 arg4 harg4 arg5 harg5 arg6 harg6 arg7 harg7 arg8 harg8 arg10 arg14 x0 x1 x2 x3 x4 x5 x6 x7 = Stage.lastV (kernelRun0_A.sl.r_35 c arg1 harg1 arg2 harg2 arg3 harg3 arg4 harg4 arg5 harg5 arg6 harg6 arg7 harg7 arg8 harg8 arg10 arg14 x0 x1 x2 x3 x4 x5 x6 x7) := by
  unfold kernelRun0_A.sl.r_38 kernelRun0_A.sl.r_36 kernelRun0_A.sl.r_35
  exact Stage.last_first _ _ _ _ _ _ _

/-- The scales of the half from row 0. -/
theorem yscale0 : kernelRun0_A.sl.r_39 c arg1 harg1 arg2 harg2 arg3 harg3 arg4 harg4 arg5 harg5 arg6 harg6 arg7 harg7 arg8 harg8 arg10 arg14 x0 x1 x2 x3 x4 x5 x6 x7 = Stage.scaleV (kernelRun0_A.sl.r_35 c arg1 harg1 arg2 harg2 arg3 harg3 arg4 harg4 arg5 harg5 arg6 harg6 arg7 harg7 arg8 harg8 arg10 arg14 x0 x1 x2 x3 x4 x5 x6 x7) := by
  unfold kernelRun0_A.sl.r_39
  rw [yfield0, ylast0]
  exact Stage.scale_first _

/-- The inverse scales of the half from row 0. -/
theorem yinverse0 : k0_pay68 (kernelRun0_A.sl.r_35 c arg1 harg1 arg2 harg2 arg3 harg3 arg4 harg4 arg5 harg5 arg6 harg6 arg7 harg7 arg8 harg8 arg10 arg14 x0 x1 x2 x3 x4 x5 x6 x7) (kernelRun0_A.sl.r_37 c arg1 harg1 arg2 harg2 arg3 harg3 arg4 harg4 arg5 harg5 arg6 harg6 arg7 harg7 arg8 harg8 arg10 arg14 x0 x1 x2 x3 x4 x5 x6 x7) (kernelRun0_A.sl.r_38 c arg1 harg1 arg2 harg2 arg3 harg3 arg4 harg4 arg5 harg5 arg6 harg6 arg7 harg7 arg8 harg8 arg10 arg14 x0 x1 x2 x3 x4 x5 x6 x7)
    = Stage.invB (kernelRun0_A.sl.r_35 c arg1 harg1 arg2 harg2 arg3 harg3 arg4 harg4 arg5 harg5 arg6 harg6 arg7 harg7 arg8 harg8 arg10 arg14 x0 x1 x2 x3 x4 x5 x6 x7) := by
  rw [yfield0, ylast0]
  exact Stage.inverse_first _

theorem yfield1 : kernelRun0_A.sl.r_67 c arg1 harg1 arg2 harg2 arg3 harg3 arg4 harg4 arg5 harg5 arg6 harg6 arg7 harg7 arg8 harg8 arg10 arg14 x0 x1 x2 x3 x4 x5 x6 x7 = Stage.capV (kernelRun0_A.sl.r_65 c arg1 harg1 arg2 harg2 arg3 harg3 arg4 harg4 arg5 harg5 arg6 harg6 arg7 harg7 arg8 harg8 arg10 arg14 x0 x1 x2 x3 x4 x5 x6 x7) (Stage.field8 (kernelRun0_A.sl.r_65 c arg1 harg1 arg2 harg2 arg3 harg3 arg4 harg4 arg5 harg5 arg6 harg6 arg7 harg7 arg8 harg8 arg10 arg14 x0 x1 x2 x3 x4 x5 x6 x7)) := by
  unfold kernelRun0_A.sl.r_67 kernelRun0_A.sl.r_66 kernelRun0_A.sl.r_65
  exact Stage.field_second _ _ _ _ _

theorem ylive1 : kernelRun0_A.sl.r_68 c arg1 harg1 arg2 harg2 arg3 harg3 arg4 harg4 arg5 harg5 arg6 harg6 arg7 harg7 arg8 harg8 arg10 arg14 x0 x1 x2 x3 x4 x5 x6 x7 = Stage.liveV (kernelRun0_A.sl.r_65 c arg1 harg1 arg2 harg2 arg3 harg3 arg4 harg4 arg5 harg5 arg6 harg6 arg7 harg7 arg8 harg8 arg10 arg14 x0 x1 x2 x3 x4 x5 x6 x7) := by
  unfold kernelRun0_A.sl.r_68 kernelRun0_A.sl.r_66 kernelRun0_A.sl.r_65
  exact Stage.live_second _ _ _ _ _

/-- The scales of the half from row 256. -/
theorem yscale1 : kernelRun0_A.sl.r_69 c arg1 harg1 arg2 harg2 arg3 harg3 arg4 harg4 arg5 harg5 arg6 harg6 arg7 harg7 arg8 harg8 arg10 arg14 x0 x1 x2 x3 x4 x5 x6 x7 = Stage.scaleV (kernelRun0_A.sl.r_65 c arg1 harg1 arg2 harg2 arg3 harg3 arg4 harg4 arg5 harg5 arg6 harg6 arg7 harg7 arg8 harg8 arg10 arg14 x0 x1 x2 x3 x4 x5 x6 x7) := by
  unfold kernelRun0_A.sl.r_69
  rw [yfield1, ylive1]
  exact Stage.scale_second _

/-- The inverse scales of the half from row 256. -/
theorem yinverse1 : k0_pay119 (kernelRun0_A.sl.r_67 c arg1 harg1 arg2 harg2 arg3 harg3 arg4 harg4 arg5 harg5 arg6 harg6 arg7 harg7 arg8 harg8 arg10 arg14 x0 x1 x2 x3 x4 x5 x6 x7) (kernelRun0_A.sl.r_68 c arg1 harg1 arg2 harg2 arg3 harg3 arg4 harg4 arg5 harg5 arg6 harg6 arg7 harg7 arg8 harg8 arg10 arg14 x0 x1 x2 x3 x4 x5 x6 x7)
    = Stage.invB (kernelRun0_A.sl.r_65 c arg1 harg1 arg2 harg2 arg3 harg3 arg4 harg4 arg5 harg5 arg6 harg6 arg7 harg7 arg8 harg8 arg10 arg14 x0 x1 x2 x3 x4 x5 x6 x7) := by
  rw [yfield1, ylive1]
  exact Stage.inverse_second _

/-- The scale of a result row of the half from row 0. -/
theorem yscale_at0 (p : Fin 256) : Stage.scaleV (kernelRun0_A.sl.r_35 c arg1 harg1 arg2 harg2 arg3 harg3 arg4 harg4 arg5 harg5 arg6 harg6 arg7 harg7 arg8 harg8 arg10 arg14 x0 x1 x2 x3 x4 x5 x6 x7) (ix2 p 0)
    = (rowAt x0 x1 x2 x3 x4 x5 x6 x7 (row 0 (by norm_num) p)).yScale := by
  have e := y_peak0 c arg1 harg1 arg2 harg2 arg3 harg3 arg4 harg4 arg5 harg5 arg6 harg6 arg7 harg7 arg8 harg8 arg10 arg14 x0 x1 x2 x3 x4 x5 x6 x7 p
  exact (Stage.scaleV_apply _ _ ((Row.peak_nonneg _).trans e.ge)).trans (congrArg Pow2.scaleR e)

theorem code0_0 (j : S256x512.Idx) : Stage.yCodeI (k0_pay68 (kernelRun0_A.sl.r_35 c arg1 harg1 arg2 harg2 arg3 harg3 arg4 harg4 arg5 harg5 arg6 harg6 arg7 harg7 arg8 harg8 arg10 arg14 x0 x1 x2 x3 x4 x5 x6 x7) (kernelRun0_A.sl.r_37 c arg1 harg1 arg2 harg2 arg3 harg3 arg4 harg4 arg5 harg5 arg6 harg6 arg7 harg7 arg8 harg8 arg10 arg14 x0 x1 x2 x3 x4 x5 x6 x7) (kernelRun0_A.sl.r_38 c arg1 harg1 arg2 harg2 arg3 harg3 arg4 harg4 arg5 harg5 arg6 harg6 arg7 harg7 arg8 harg8 arg10 arg14 x0 x1 x2 x3 x4 x5 x6 x7)) (kernelRun0_A.sl.v649 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 0 (by norm_num) (j 0)) (Row.col 0 (j 1))) := by
  rw [yinverse0]
  exact code_chunk x0 x1 x2 x3 x4 x5 x6 x7 0 (by norm_num) 0 (y_peak0 c arg1 harg1 arg2 harg2 arg3 harg3 arg4 harg4 arg5 harg5 arg6 harg6 arg7 harg7 arg8 harg8 arg10 arg14 x0 x1 x2 x3 x4 x5 x6 x7) (read_y0_0 c arg1 harg1 arg2 harg2 arg3 harg3 arg4 harg4 arg5 harg5 arg6 harg6 arg7 harg7 arg8 harg8 x0 x1 x2 x3 x4 x5 x6 x7 arg9 arg10 arg14) j

theorem code0_1 (j : S256x512.Idx) : Stage.yCodeI (k0_pay68 (kernelRun0_A.sl.r_35 c arg1 harg1 arg2 harg2 arg3 harg3 arg4 harg4 arg5 harg5 arg6 harg6 arg7 harg7 arg8 harg8 arg10 arg14 x0 x1 x2 x3 x4 x5 x6 x7) (kernelRun0_A.sl.r_37 c arg1 harg1 arg2 harg2 arg3 harg3 arg4 harg4 arg5 harg5 arg6 harg6 arg7 harg7 arg8 harg8 arg10 arg14 x0 x1 x2 x3 x4 x5 x6 x7) (kernelRun0_A.sl.r_38 c arg1 harg1 arg2 harg2 arg3 harg3 arg4 harg4 arg5 harg5 arg6 harg6 arg7 harg7 arg8 harg8 arg10 arg14 x0 x1 x2 x3 x4 x5 x6 x7)) (kernelRun0_A.sl.v661 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 0 (by norm_num) (j 0)) (Row.col 1 (j 1))) := by
  rw [yinverse0]
  exact code_chunk x0 x1 x2 x3 x4 x5 x6 x7 0 (by norm_num) 1 (y_peak0 c arg1 harg1 arg2 harg2 arg3 harg3 arg4 harg4 arg5 harg5 arg6 harg6 arg7 harg7 arg8 harg8 arg10 arg14 x0 x1 x2 x3 x4 x5 x6 x7) (read_y0_1 c arg1 harg1 arg2 harg2 arg3 harg3 arg4 harg4 arg5 harg5 arg6 harg6 arg7 harg7 arg8 harg8 x0 x1 x2 x3 x4 x5 x6 x7 arg9 arg10 arg14) j

theorem code0_2 (j : S256x512.Idx) : Stage.yCodeI (k0_pay68 (kernelRun0_A.sl.r_35 c arg1 harg1 arg2 harg2 arg3 harg3 arg4 harg4 arg5 harg5 arg6 harg6 arg7 harg7 arg8 harg8 arg10 arg14 x0 x1 x2 x3 x4 x5 x6 x7) (kernelRun0_A.sl.r_37 c arg1 harg1 arg2 harg2 arg3 harg3 arg4 harg4 arg5 harg5 arg6 harg6 arg7 harg7 arg8 harg8 arg10 arg14 x0 x1 x2 x3 x4 x5 x6 x7) (kernelRun0_A.sl.r_38 c arg1 harg1 arg2 harg2 arg3 harg3 arg4 harg4 arg5 harg5 arg6 harg6 arg7 harg7 arg8 harg8 arg10 arg14 x0 x1 x2 x3 x4 x5 x6 x7)) (kernelRun0_A.sl.v673 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 0 (by norm_num) (j 0)) (Row.col 2 (j 1))) := by
  rw [yinverse0]
  exact code_chunk x0 x1 x2 x3 x4 x5 x6 x7 0 (by norm_num) 2 (y_peak0 c arg1 harg1 arg2 harg2 arg3 harg3 arg4 harg4 arg5 harg5 arg6 harg6 arg7 harg7 arg8 harg8 arg10 arg14 x0 x1 x2 x3 x4 x5 x6 x7) (read_y0_2 c arg1 harg1 arg2 harg2 arg3 harg3 arg4 harg4 arg5 harg5 arg6 harg6 arg7 harg7 arg8 harg8 x0 x1 x2 x3 x4 x5 x6 x7 arg9 arg10 arg14) j

theorem code0_3 (j : S256x512.Idx) : Stage.yCodeI (k0_pay68 (kernelRun0_A.sl.r_35 c arg1 harg1 arg2 harg2 arg3 harg3 arg4 harg4 arg5 harg5 arg6 harg6 arg7 harg7 arg8 harg8 arg10 arg14 x0 x1 x2 x3 x4 x5 x6 x7) (kernelRun0_A.sl.r_37 c arg1 harg1 arg2 harg2 arg3 harg3 arg4 harg4 arg5 harg5 arg6 harg6 arg7 harg7 arg8 harg8 arg10 arg14 x0 x1 x2 x3 x4 x5 x6 x7) (kernelRun0_A.sl.r_38 c arg1 harg1 arg2 harg2 arg3 harg3 arg4 harg4 arg5 harg5 arg6 harg6 arg7 harg7 arg8 harg8 arg10 arg14 x0 x1 x2 x3 x4 x5 x6 x7)) (kernelRun0_A.sl.v685 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 0 (by norm_num) (j 0)) (Row.col 3 (j 1))) := by
  rw [yinverse0]
  exact code_chunk x0 x1 x2 x3 x4 x5 x6 x7 0 (by norm_num) 3 (y_peak0 c arg1 harg1 arg2 harg2 arg3 harg3 arg4 harg4 arg5 harg5 arg6 harg6 arg7 harg7 arg8 harg8 arg10 arg14 x0 x1 x2 x3 x4 x5 x6 x7) (read_y0_3 c arg1 harg1 arg2 harg2 arg3 harg3 arg4 harg4 arg5 harg5 arg6 harg6 arg7 harg7 arg8 harg8 x0 x1 x2 x3 x4 x5 x6 x7 arg9 arg10 arg14) j

theorem code0_4 (j : S256x512.Idx) : Stage.yCodeI (k0_pay68 (kernelRun0_A.sl.r_35 c arg1 harg1 arg2 harg2 arg3 harg3 arg4 harg4 arg5 harg5 arg6 harg6 arg7 harg7 arg8 harg8 arg10 arg14 x0 x1 x2 x3 x4 x5 x6 x7) (kernelRun0_A.sl.r_37 c arg1 harg1 arg2 harg2 arg3 harg3 arg4 harg4 arg5 harg5 arg6 harg6 arg7 harg7 arg8 harg8 arg10 arg14 x0 x1 x2 x3 x4 x5 x6 x7) (kernelRun0_A.sl.r_38 c arg1 harg1 arg2 harg2 arg3 harg3 arg4 harg4 arg5 harg5 arg6 harg6 arg7 harg7 arg8 harg8 arg10 arg14 x0 x1 x2 x3 x4 x5 x6 x7)) (kernelRun0_A.sl.v697 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 0 (by norm_num) (j 0)) (Row.col 4 (j 1))) := by
  rw [yinverse0]
  exact code_chunk x0 x1 x2 x3 x4 x5 x6 x7 0 (by norm_num) 4 (y_peak0 c arg1 harg1 arg2 harg2 arg3 harg3 arg4 harg4 arg5 harg5 arg6 harg6 arg7 harg7 arg8 harg8 arg10 arg14 x0 x1 x2 x3 x4 x5 x6 x7) (read_y0_4 c arg1 harg1 arg2 harg2 arg3 harg3 arg4 harg4 arg5 harg5 arg6 harg6 arg7 harg7 arg8 harg8 x0 x1 x2 x3 x4 x5 x6 x7 arg9 arg10 arg14) j

theorem code0_5 (j : S256x512.Idx) : Stage.yCodeI (k0_pay68 (kernelRun0_A.sl.r_35 c arg1 harg1 arg2 harg2 arg3 harg3 arg4 harg4 arg5 harg5 arg6 harg6 arg7 harg7 arg8 harg8 arg10 arg14 x0 x1 x2 x3 x4 x5 x6 x7) (kernelRun0_A.sl.r_37 c arg1 harg1 arg2 harg2 arg3 harg3 arg4 harg4 arg5 harg5 arg6 harg6 arg7 harg7 arg8 harg8 arg10 arg14 x0 x1 x2 x3 x4 x5 x6 x7) (kernelRun0_A.sl.r_38 c arg1 harg1 arg2 harg2 arg3 harg3 arg4 harg4 arg5 harg5 arg6 harg6 arg7 harg7 arg8 harg8 arg10 arg14 x0 x1 x2 x3 x4 x5 x6 x7)) (kernelRun0_A.sl.v709 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 0 (by norm_num) (j 0)) (Row.col 5 (j 1))) := by
  rw [yinverse0]
  exact code_chunk x0 x1 x2 x3 x4 x5 x6 x7 0 (by norm_num) 5 (y_peak0 c arg1 harg1 arg2 harg2 arg3 harg3 arg4 harg4 arg5 harg5 arg6 harg6 arg7 harg7 arg8 harg8 arg10 arg14 x0 x1 x2 x3 x4 x5 x6 x7) (read_y0_5 c arg1 harg1 arg2 harg2 arg3 harg3 arg4 harg4 arg5 harg5 arg6 harg6 arg7 harg7 arg8 harg8 x0 x1 x2 x3 x4 x5 x6 x7 arg9 arg10 arg14) j

theorem code0_6 (j : S256x512.Idx) : Stage.yCodeI (k0_pay68 (kernelRun0_A.sl.r_35 c arg1 harg1 arg2 harg2 arg3 harg3 arg4 harg4 arg5 harg5 arg6 harg6 arg7 harg7 arg8 harg8 arg10 arg14 x0 x1 x2 x3 x4 x5 x6 x7) (kernelRun0_A.sl.r_37 c arg1 harg1 arg2 harg2 arg3 harg3 arg4 harg4 arg5 harg5 arg6 harg6 arg7 harg7 arg8 harg8 arg10 arg14 x0 x1 x2 x3 x4 x5 x6 x7) (kernelRun0_A.sl.r_38 c arg1 harg1 arg2 harg2 arg3 harg3 arg4 harg4 arg5 harg5 arg6 harg6 arg7 harg7 arg8 harg8 arg10 arg14 x0 x1 x2 x3 x4 x5 x6 x7)) (kernelRun0_A.sl.v721 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 0 (by norm_num) (j 0)) (Row.col 6 (j 1))) := by
  rw [yinverse0]
  exact code_chunk x0 x1 x2 x3 x4 x5 x6 x7 0 (by norm_num) 6 (y_peak0 c arg1 harg1 arg2 harg2 arg3 harg3 arg4 harg4 arg5 harg5 arg6 harg6 arg7 harg7 arg8 harg8 arg10 arg14 x0 x1 x2 x3 x4 x5 x6 x7) (read_y0_6 c arg1 harg1 arg2 harg2 arg3 harg3 arg4 harg4 arg5 harg5 arg6 harg6 arg7 harg7 arg8 harg8 x0 x1 x2 x3 x4 x5 x6 x7 arg9 arg10 arg14) j

theorem code0_7 (j : S256x512.Idx) : Stage.yCodeI (k0_pay68 (kernelRun0_A.sl.r_35 c arg1 harg1 arg2 harg2 arg3 harg3 arg4 harg4 arg5 harg5 arg6 harg6 arg7 harg7 arg8 harg8 arg10 arg14 x0 x1 x2 x3 x4 x5 x6 x7) (kernelRun0_A.sl.r_37 c arg1 harg1 arg2 harg2 arg3 harg3 arg4 harg4 arg5 harg5 arg6 harg6 arg7 harg7 arg8 harg8 arg10 arg14 x0 x1 x2 x3 x4 x5 x6 x7) (kernelRun0_A.sl.r_38 c arg1 harg1 arg2 harg2 arg3 harg3 arg4 harg4 arg5 harg5 arg6 harg6 arg7 harg7 arg8 harg8 arg10 arg14 x0 x1 x2 x3 x4 x5 x6 x7)) (kernelRun0_A.sl.v733 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 0 (by norm_num) (j 0)) (Row.col 7 (j 1))) := by
  rw [yinverse0]
  exact code_chunk x0 x1 x2 x3 x4 x5 x6 x7 0 (by norm_num) 7 (y_peak0 c arg1 harg1 arg2 harg2 arg3 harg3 arg4 harg4 arg5 harg5 arg6 harg6 arg7 harg7 arg8 harg8 arg10 arg14 x0 x1 x2 x3 x4 x5 x6 x7) (read_y0_7 c arg1 harg1 arg2 harg2 arg3 harg3 arg4 harg4 arg5 harg5 arg6 harg6 arg7 harg7 arg8 harg8 x0 x1 x2 x3 x4 x5 x6 x7 arg9 arg10 arg14) j

theorem code0_8 (j : S256x512.Idx) : Stage.yCodeI (k0_pay68 (kernelRun0_A.sl.r_35 c arg1 harg1 arg2 harg2 arg3 harg3 arg4 harg4 arg5 harg5 arg6 harg6 arg7 harg7 arg8 harg8 arg10 arg14 x0 x1 x2 x3 x4 x5 x6 x7) (kernelRun0_A.sl.r_37 c arg1 harg1 arg2 harg2 arg3 harg3 arg4 harg4 arg5 harg5 arg6 harg6 arg7 harg7 arg8 harg8 arg10 arg14 x0 x1 x2 x3 x4 x5 x6 x7) (kernelRun0_A.sl.r_38 c arg1 harg1 arg2 harg2 arg3 harg3 arg4 harg4 arg5 harg5 arg6 harg6 arg7 harg7 arg8 harg8 arg10 arg14 x0 x1 x2 x3 x4 x5 x6 x7)) (kernelRun0_A.sl.v745 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 0 (by norm_num) (j 0)) (Row.col 8 (j 1))) := by
  rw [yinverse0]
  exact code_chunk x0 x1 x2 x3 x4 x5 x6 x7 0 (by norm_num) 8 (y_peak0 c arg1 harg1 arg2 harg2 arg3 harg3 arg4 harg4 arg5 harg5 arg6 harg6 arg7 harg7 arg8 harg8 arg10 arg14 x0 x1 x2 x3 x4 x5 x6 x7) (read_y0_8 c arg1 harg1 arg2 harg2 arg3 harg3 arg4 harg4 arg5 harg5 arg6 harg6 arg7 harg7 arg8 harg8 x0 x1 x2 x3 x4 x5 x6 x7 arg9 arg10 arg14) j

/-- The scale of a result row of the half from row 256. -/
theorem yscale_at1 (p : Fin 256) : Stage.scaleV (kernelRun0_A.sl.r_65 c arg1 harg1 arg2 harg2 arg3 harg3 arg4 harg4 arg5 harg5 arg6 harg6 arg7 harg7 arg8 harg8 arg10 arg14 x0 x1 x2 x3 x4 x5 x6 x7) (ix2 p 0)
    = (rowAt x0 x1 x2 x3 x4 x5 x6 x7 (row 256 (by norm_num) p)).yScale := by
  have e := y_peak1 c arg1 harg1 arg2 harg2 arg3 harg3 arg4 harg4 arg5 harg5 arg6 harg6 arg7 harg7 arg8 harg8 arg10 arg14 x0 x1 x2 x3 x4 x5 x6 x7 p
  exact (Stage.scaleV_apply _ _ ((Row.peak_nonneg _).trans e.ge)).trans (congrArg Pow2.scaleR e)

theorem code1_0 (j : S256x512.Idx) : Stage.yCodeI (k0_pay119 (kernelRun0_A.sl.r_67 c arg1 harg1 arg2 harg2 arg3 harg3 arg4 harg4 arg5 harg5 arg6 harg6 arg7 harg7 arg8 harg8 arg10 arg14 x0 x1 x2 x3 x4 x5 x6 x7) (kernelRun0_A.sl.r_68 c arg1 harg1 arg2 harg2 arg3 harg3 arg4 harg4 arg5 harg5 arg6 harg6 arg7 harg7 arg8 harg8 arg10 arg14 x0 x1 x2 x3 x4 x5 x6 x7)) (kernelRun0_A.sl.v1160 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 256 (by norm_num) (j 0)) (Row.col 0 (j 1))) := by
  rw [yinverse1]
  exact code_chunk x0 x1 x2 x3 x4 x5 x6 x7 256 (by norm_num) 0 (y_peak1 c arg1 harg1 arg2 harg2 arg3 harg3 arg4 harg4 arg5 harg5 arg6 harg6 arg7 harg7 arg8 harg8 arg10 arg14 x0 x1 x2 x3 x4 x5 x6 x7) (read_y1_0 c arg1 harg1 arg2 harg2 arg3 harg3 arg4 harg4 arg5 harg5 arg6 harg6 arg7 harg7 arg8 harg8 x0 x1 x2 x3 x4 x5 x6 x7 arg9 arg10 arg14) j

theorem code1_1 (j : S256x512.Idx) : Stage.yCodeI (k0_pay119 (kernelRun0_A.sl.r_67 c arg1 harg1 arg2 harg2 arg3 harg3 arg4 harg4 arg5 harg5 arg6 harg6 arg7 harg7 arg8 harg8 arg10 arg14 x0 x1 x2 x3 x4 x5 x6 x7) (kernelRun0_A.sl.r_68 c arg1 harg1 arg2 harg2 arg3 harg3 arg4 harg4 arg5 harg5 arg6 harg6 arg7 harg7 arg8 harg8 arg10 arg14 x0 x1 x2 x3 x4 x5 x6 x7)) (kernelRun0_A.sl.v1172 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 256 (by norm_num) (j 0)) (Row.col 1 (j 1))) := by
  rw [yinverse1]
  exact code_chunk x0 x1 x2 x3 x4 x5 x6 x7 256 (by norm_num) 1 (y_peak1 c arg1 harg1 arg2 harg2 arg3 harg3 arg4 harg4 arg5 harg5 arg6 harg6 arg7 harg7 arg8 harg8 arg10 arg14 x0 x1 x2 x3 x4 x5 x6 x7) (read_y1_1 c arg1 harg1 arg2 harg2 arg3 harg3 arg4 harg4 arg5 harg5 arg6 harg6 arg7 harg7 arg8 harg8 x0 x1 x2 x3 x4 x5 x6 x7 arg9 arg10 arg14) j

theorem code1_2 (j : S256x512.Idx) : Stage.yCodeI (k0_pay119 (kernelRun0_A.sl.r_67 c arg1 harg1 arg2 harg2 arg3 harg3 arg4 harg4 arg5 harg5 arg6 harg6 arg7 harg7 arg8 harg8 arg10 arg14 x0 x1 x2 x3 x4 x5 x6 x7) (kernelRun0_A.sl.r_68 c arg1 harg1 arg2 harg2 arg3 harg3 arg4 harg4 arg5 harg5 arg6 harg6 arg7 harg7 arg8 harg8 arg10 arg14 x0 x1 x2 x3 x4 x5 x6 x7)) (kernelRun0_A.sl.v1184 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 256 (by norm_num) (j 0)) (Row.col 2 (j 1))) := by
  rw [yinverse1]
  exact code_chunk x0 x1 x2 x3 x4 x5 x6 x7 256 (by norm_num) 2 (y_peak1 c arg1 harg1 arg2 harg2 arg3 harg3 arg4 harg4 arg5 harg5 arg6 harg6 arg7 harg7 arg8 harg8 arg10 arg14 x0 x1 x2 x3 x4 x5 x6 x7) (read_y1_2 c arg1 harg1 arg2 harg2 arg3 harg3 arg4 harg4 arg5 harg5 arg6 harg6 arg7 harg7 arg8 harg8 x0 x1 x2 x3 x4 x5 x6 x7 arg9 arg10 arg14) j

theorem code1_3 (j : S256x512.Idx) : Stage.yCodeI (k0_pay119 (kernelRun0_A.sl.r_67 c arg1 harg1 arg2 harg2 arg3 harg3 arg4 harg4 arg5 harg5 arg6 harg6 arg7 harg7 arg8 harg8 arg10 arg14 x0 x1 x2 x3 x4 x5 x6 x7) (kernelRun0_A.sl.r_68 c arg1 harg1 arg2 harg2 arg3 harg3 arg4 harg4 arg5 harg5 arg6 harg6 arg7 harg7 arg8 harg8 arg10 arg14 x0 x1 x2 x3 x4 x5 x6 x7)) (kernelRun0_A.sl.v1196 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 256 (by norm_num) (j 0)) (Row.col 3 (j 1))) := by
  rw [yinverse1]
  exact code_chunk x0 x1 x2 x3 x4 x5 x6 x7 256 (by norm_num) 3 (y_peak1 c arg1 harg1 arg2 harg2 arg3 harg3 arg4 harg4 arg5 harg5 arg6 harg6 arg7 harg7 arg8 harg8 arg10 arg14 x0 x1 x2 x3 x4 x5 x6 x7) (read_y1_3 c arg1 harg1 arg2 harg2 arg3 harg3 arg4 harg4 arg5 harg5 arg6 harg6 arg7 harg7 arg8 harg8 x0 x1 x2 x3 x4 x5 x6 x7 arg9 arg10 arg14) j

theorem code1_4 (j : S256x512.Idx) : Stage.yCodeI (k0_pay119 (kernelRun0_A.sl.r_67 c arg1 harg1 arg2 harg2 arg3 harg3 arg4 harg4 arg5 harg5 arg6 harg6 arg7 harg7 arg8 harg8 arg10 arg14 x0 x1 x2 x3 x4 x5 x6 x7) (kernelRun0_A.sl.r_68 c arg1 harg1 arg2 harg2 arg3 harg3 arg4 harg4 arg5 harg5 arg6 harg6 arg7 harg7 arg8 harg8 arg10 arg14 x0 x1 x2 x3 x4 x5 x6 x7)) (kernelRun0_A.sl.v1208 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 256 (by norm_num) (j 0)) (Row.col 4 (j 1))) := by
  rw [yinverse1]
  exact code_chunk x0 x1 x2 x3 x4 x5 x6 x7 256 (by norm_num) 4 (y_peak1 c arg1 harg1 arg2 harg2 arg3 harg3 arg4 harg4 arg5 harg5 arg6 harg6 arg7 harg7 arg8 harg8 arg10 arg14 x0 x1 x2 x3 x4 x5 x6 x7) (read_y1_4 c arg1 harg1 arg2 harg2 arg3 harg3 arg4 harg4 arg5 harg5 arg6 harg6 arg7 harg7 arg8 harg8 x0 x1 x2 x3 x4 x5 x6 x7 arg9 arg10 arg14) j

theorem code1_5 (j : S256x512.Idx) : Stage.yCodeI (k0_pay119 (kernelRun0_A.sl.r_67 c arg1 harg1 arg2 harg2 arg3 harg3 arg4 harg4 arg5 harg5 arg6 harg6 arg7 harg7 arg8 harg8 arg10 arg14 x0 x1 x2 x3 x4 x5 x6 x7) (kernelRun0_A.sl.r_68 c arg1 harg1 arg2 harg2 arg3 harg3 arg4 harg4 arg5 harg5 arg6 harg6 arg7 harg7 arg8 harg8 arg10 arg14 x0 x1 x2 x3 x4 x5 x6 x7)) (kernelRun0_A.sl.v1220 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 256 (by norm_num) (j 0)) (Row.col 5 (j 1))) := by
  rw [yinverse1]
  exact code_chunk x0 x1 x2 x3 x4 x5 x6 x7 256 (by norm_num) 5 (y_peak1 c arg1 harg1 arg2 harg2 arg3 harg3 arg4 harg4 arg5 harg5 arg6 harg6 arg7 harg7 arg8 harg8 arg10 arg14 x0 x1 x2 x3 x4 x5 x6 x7) (read_y1_5 c arg1 harg1 arg2 harg2 arg3 harg3 arg4 harg4 arg5 harg5 arg6 harg6 arg7 harg7 arg8 harg8 x0 x1 x2 x3 x4 x5 x6 x7 arg9 arg10 arg14) j

theorem code1_6 (j : S256x512.Idx) : Stage.yCodeI (k0_pay119 (kernelRun0_A.sl.r_67 c arg1 harg1 arg2 harg2 arg3 harg3 arg4 harg4 arg5 harg5 arg6 harg6 arg7 harg7 arg8 harg8 arg10 arg14 x0 x1 x2 x3 x4 x5 x6 x7) (kernelRun0_A.sl.r_68 c arg1 harg1 arg2 harg2 arg3 harg3 arg4 harg4 arg5 harg5 arg6 harg6 arg7 harg7 arg8 harg8 arg10 arg14 x0 x1 x2 x3 x4 x5 x6 x7)) (kernelRun0_A.sl.v1232 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 256 (by norm_num) (j 0)) (Row.col 6 (j 1))) := by
  rw [yinverse1]
  exact code_chunk x0 x1 x2 x3 x4 x5 x6 x7 256 (by norm_num) 6 (y_peak1 c arg1 harg1 arg2 harg2 arg3 harg3 arg4 harg4 arg5 harg5 arg6 harg6 arg7 harg7 arg8 harg8 arg10 arg14 x0 x1 x2 x3 x4 x5 x6 x7) (read_y1_6 c arg1 harg1 arg2 harg2 arg3 harg3 arg4 harg4 arg5 harg5 arg6 harg6 arg7 harg7 arg8 harg8 x0 x1 x2 x3 x4 x5 x6 x7 arg9 arg10 arg14) j

theorem code1_7 (j : S256x512.Idx) : Stage.yCodeI (k0_pay119 (kernelRun0_A.sl.r_67 c arg1 harg1 arg2 harg2 arg3 harg3 arg4 harg4 arg5 harg5 arg6 harg6 arg7 harg7 arg8 harg8 arg10 arg14 x0 x1 x2 x3 x4 x5 x6 x7) (kernelRun0_A.sl.r_68 c arg1 harg1 arg2 harg2 arg3 harg3 arg4 harg4 arg5 harg5 arg6 harg6 arg7 harg7 arg8 harg8 arg10 arg14 x0 x1 x2 x3 x4 x5 x6 x7)) (kernelRun0_A.sl.v1244 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 256 (by norm_num) (j 0)) (Row.col 7 (j 1))) := by
  rw [yinverse1]
  exact code_chunk x0 x1 x2 x3 x4 x5 x6 x7 256 (by norm_num) 7 (y_peak1 c arg1 harg1 arg2 harg2 arg3 harg3 arg4 harg4 arg5 harg5 arg6 harg6 arg7 harg7 arg8 harg8 arg10 arg14 x0 x1 x2 x3 x4 x5 x6 x7) (read_y1_7 c arg1 harg1 arg2 harg2 arg3 harg3 arg4 harg4 arg5 harg5 arg6 harg6 arg7 harg7 arg8 harg8 x0 x1 x2 x3 x4 x5 x6 x7 arg9 arg10 arg14) j

theorem code1_8 (j : S256x512.Idx) : Stage.yCodeI (k0_pay119 (kernelRun0_A.sl.r_67 c arg1 harg1 arg2 harg2 arg3 harg3 arg4 harg4 arg5 harg5 arg6 harg6 arg7 harg7 arg8 harg8 arg10 arg14 x0 x1 x2 x3 x4 x5 x6 x7) (kernelRun0_A.sl.r_68 c arg1 harg1 arg2 harg2 arg3 harg3 arg4 harg4 arg5 harg5 arg6 harg6 arg7 harg7 arg8 harg8 arg10 arg14 x0 x1 x2 x3 x4 x5 x6 x7)) (kernelRun0_A.sl.v1256 c arg1 harg1 arg2 harg2 arg3 harg3 arg4 harg4 arg5 harg5 arg6 harg6 arg7 harg7 arg8 harg8 arg9 arg10 arg14 x0 x1 x2 x3 x4 x5 x6 x7) j
    = yCodeAt x0 x1 x2 x3 x4 x5 x6 x7 (ix2 (row 256 (by norm_num) (j 0)) (Row.col 8 (j 1))) := by
  rw [yinverse1]
  exact code_chunk x0 x1 x2 x3 x4 x5 x6 x7 256 (by norm_num) 8 (y_peak1 c arg1 harg1 arg2 harg2 arg3 harg3 arg4 harg4 arg5 harg5 arg6 harg6 arg7 harg7 arg8 harg8 arg10 arg14 x0 x1 x2 x3 x4 x5 x6 x7) (read_y1_8 c arg1 harg1 arg2 harg2 arg3 harg3 arg4 harg4 arg5 harg5 arg6 harg6 arg7 harg7 arg8 harg8 x0 x1 x2 x3 x4 x5 x6 x7 arg9 arg10 arg14) j

end

section

variable (c : Dev nD) (i : grid0.Coords)
  (arg1 : Memref sig .tc .vmem S512x1152 .bf16) (harg1 : arg1.IsWhole)
  (arg2 : Memref sig .tc .vmem S1x1x1152 .bf16) (harg2 : arg2.IsWhole)
  (arg3 : Memref sig .tc .vmem S1x1x1152 .bf16) (harg3 : arg3.IsWhole)
  (arg4 : Memref sig .tc .vmem S1x1x4608 .bf16) (harg4 : arg4.IsWhole)
  (arg5 : Memref sig .tc .vmem S512x4608 .bf16) (harg5 : arg5.IsWhole)
  (arg6 : Memref sig .tc .vmem S1152x4608 .fp8e4m3) (harg6 : arg6.IsWhole)
  (arg7 : Memref sig .tc .vmem S1x4608 .f32) (harg7 : arg7.IsWhole)
  (arg8 : Memref sig .tc .vmem S1x4608 .bf16) (harg8 : arg8.IsWhole)
  (arg9 : Memref sig .tc .vmem S512x4608 .bf16) (harg9 : arg9.IsWhole)
  (arg10 : Memref sig .tc .vmem S512x1152 .fp8e4m3) (harg10 : arg10.IsWhole)
  (arg11 : Memref sig .tc .vmem S1x4x128 .f32) (harg11 : arg11.IsWhole)
  (arg12 : Memref sig .tc .vmem S512x4608 .fp8e4m3) (harg12 : arg12.IsWhole)
  (arg13 : Memref sig .tc .vmem S1x4x128 .f32) (harg13 : arg13.IsWhole)
  (arg14 : Memref sig .tc .vmem S512x128 .f32) (harg14 : arg14.IsWhole)
  (x0 : Vec Ideal S512x1152 .bf16)
  (x1 : Vec Ideal S1x1x1152 .bf16)
  (x2 : Vec Ideal S1x1x1152 .bf16)
  (x3 : Vec Ideal S1x1x4608 .bf16)
  (x4 : Vec Ideal S512x4608 .bf16)
  (x5 : Vec Ideal S1152x4608 .fp8e4m3)
  (x6 : Vec Ideal S1x4608 .f32)
  (x7 : Vec Ideal S1x4608 .bf16)

/-- The chunks of codes stored into the code block of the result carry the rows' codes. -/
theorem ycode_pieces : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.1, ∀ x : p.1.shape.Idx,
    p.2 x = yCodeAt x0 x1 x2 x3 x4 x5 x6 x7 (p.1.emb x) := by
  unfold kernelRun0_A
  refine List.forall_mem_cons.2 ⟨fun x => ?_, ?_⟩
  · rw [emb_eq _ x (ix2 (row 256 (by norm_num) (x 0)) (Row.col 8 (x 1))) fun a => by fin_cases a <;> simp]
    have e := (congrFun (Stage.c256_4096 _ _) x).trans (code1_8 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 256 (by norm_num) (x 0)) (Row.col 7 (x 1))) fun a => by fin_cases a <;> simp]
    have e := (congrFun (Stage.c256_3584 _ _) x).trans (code1_7 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 256 (by norm_num) (x 0)) (Row.col 6 (x 1))) fun a => by fin_cases a <;> simp]
    have e := (congrFun (Stage.c256_3072 _ _) x).trans (code1_6 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 256 (by norm_num) (x 0)) (Row.col 5 (x 1))) fun a => by fin_cases a <;> simp]
    have e := (congrFun (Stage.c256_2560 _ _) x).trans (code1_5 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 256 (by norm_num) (x 0)) (Row.col 4 (x 1))) fun a => by fin_cases a <;> simp]
    have e := (congrFun (Stage.c256_2048 _ _) x).trans (code1_4 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 256 (by norm_num) (x 0)) (Row.col 3 (x 1))) fun a => by fin_cases a <;> simp]
    have e := (congrFun (Stage.c256_1536 _ _) x).trans (code1_3 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 256 (by norm_num) (x 0)) (Row.col 2 (x 1))) fun a => by fin_cases a <;> simp]
    have e := (congrFun (Stage.c256_1024 _ _ _) x).trans (code1_2 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 256 (by norm_num) (x 0)) (Row.col 1 (x 1))) fun a => by fin_cases a <;> simp]
    have e := (congrFun (Stage.c256_512 _ _ _) x).trans (code1_1 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 256 (by norm_num) (x 0)) (Row.col 0 (x 1))) fun a => by fin_cases a <;> simp]
    have e := (congrFun (Stage.c256_0 _ _ _) x).trans (code1_0 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 0 (by norm_num) (x 0)) (Row.col 8 (x 1))) fun a => by fin_cases a <;> simp]
    have e := (congrFun (Stage.c0_4096 _ _) x).trans (code0_8 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 0 (by norm_num) (x 0)) (Row.col 7 (x 1))) fun a => by fin_cases a <;> simp]
    have e := (congrFun (Stage.c0_3584 _ _) x).trans (code0_7 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 0 (by norm_num) (x 0)) (Row.col 6 (x 1))) fun a => by fin_cases a <;> simp]
    have e := (congrFun (Stage.c0_3072 _ _) x).trans (code0_6 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 0 (by norm_num) (x 0)) (Row.col 5 (x 1))) fun a => by fin_cases a <;> simp]
    have e := (congrFun (Stage.c0_2560 _ _) x).trans (code0_5 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 0 (by norm_num) (x 0)) (Row.col 4 (x 1))) fun a => by fin_cases a <;> simp]
    have e := (congrFun (Stage.c0_2048 _ _) x).trans (code0_4 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 0 (by norm_num) (x 0)) (Row.col 3 (x 1))) fun a => by fin_cases a <;> simp]
    have e := (congrFun (Stage.c0_1536 _ _) x).trans (code0_3 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 0 (by norm_num) (x 0)) (Row.col 2 (x 1))) fun a => by fin_cases a <;> simp]
    have e := (congrFun (Stage.c0_1024 _ _) x).trans (code0_2 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, ?_⟩
  · rw [emb_eq _ x (ix2 (row 0 (by norm_num) (x 0)) (Row.col 1 (x 1))) fun a => by fin_cases a <;> simp]
    have e := (congrFun (Stage.c0_512 _ _ _ _) x).trans (code0_1 c arg1 harg1 arg2 harg2 arg3 harg3 arg4 harg4 arg5 harg5 arg6 harg6 arg7 harg7 arg8 harg8 x0 x1 x2 x3 x4 x5 x6 x7 arg9 arg10 arg14 x)
    dsimp only
    exact e
  refine List.forall_mem_cons.2 ⟨fun x => ?_, fun _ h => absurd h List.not_mem_nil⟩
  · rw [emb_eq _ x (ix2 (row 0 (by norm_num) (x 0)) (Row.col 0 (x 1))) fun a => by fin_cases a <;> simp]
    have e := (congrFun (Stage.c0_0 _ _ _ _) x).trans (code0_0 c arg1 harg1 arg2 harg2 arg3 harg3 arg4 harg4 arg5 harg5 arg6 harg6 arg7 harg7 arg8 harg8 x0 x1 x2 x3 x4 x5 x6 x7 arg9 arg10 arg14 x)
    dsimp only
    exact e

/-- The two stores of scales of the normalised rows carry the rows' scales. -/
theorem htile_pieces : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.1, ∀ x : p.1.shape.Idx,
    p.2 x = hTileAt x0 x1 x2 (p.1.emb x) := by
  unfold kernelRun0_A
  refine List.forall_mem_cons.2 ⟨fun x => ?_, List.forall_mem_cons.2 ⟨fun x => ?_, fun _ h => absurd h List.not_mem_nil⟩⟩
  · have e := (congrFun (tile_half1 c arg1 harg1 arg2 harg2 arg3 harg3 x0 x1 x2) x).trans (tile_half (hScaleAt x0 x1 x2) 256 (by norm_num) 2 rfl
      (fun p => scale_half arg1 harg1 arg2 harg2 arg3 harg3 x0 x1 x2 256 (by norm_num) inb_S512x1152_S256x1152_256_0 (ix2 p 0)) x _ (line_eq 2 inb_S1x4x128_S1x2x128_0_2_0 x))
    dsimp only
    exact e
  · have e := (congrFun (tile_half0 c arg1 harg1 arg2 harg2 arg3 harg3 x0 x1 x2) x).trans (tile_half (hScaleAt x0 x1 x2) 0 (by norm_num) 0 rfl
      (fun p => scale_half arg1 harg1 arg2 harg2 arg3 harg3 x0 x1 x2 0 (by norm_num) inb_S512x1152_S256x1152_0_0 (ix2 p 0)) x _ (line_eq 0 inb_S1x4x128_S1x2x128_0_0_0 x))
    dsimp only
    exact e

/-- The two stores of scales of the result rows carry the rows' scales. -/
theorem ytile_pieces : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7).2.2.2.2.1, ∀ x : p.1.shape.Idx,
    p.2 x = yTileAt x0 x1 x2 x3 x4 x5 x6 x7 (p.1.emb x) := by
  unfold kernelRun0_A
  refine List.forall_mem_cons.2 ⟨fun x => ?_, List.forall_mem_cons.2 ⟨fun x => ?_, fun _ h => absurd h List.not_mem_nil⟩⟩
  · have e := (congrFun ((Stage.tile_second _).trans (congrArg Stage.tileV (yscale1 c arg1 harg1 arg2 harg2 arg3 harg3 arg4 harg4 arg5 harg5 arg6 harg6 arg7 harg7 arg8 harg8 x0 x1 x2 x3 x4 x5 x6 x7 arg10 arg14))) x).trans (tile_half (fun p => (rowAt x0 x1 x2 x3 x4 x5 x6 x7 p).yScale) 256 (by norm_num) 2 rfl
      (yscale_at1 c arg1 harg1 arg2 harg2 arg3 harg3 arg4 harg4 arg5 harg5 arg6 harg6 arg7 harg7 arg8 harg8 x0 x1 x2 x3 x4 x5 x6 x7 arg10 arg14) x _ (line_eq 2 inb_S1x4x128_S1x2x128_0_2_0 x))
    dsimp only
    exact e
  · have e := (congrFun ((Stage.tile_first _).trans (congrArg Stage.tileV (yscale0 c arg1 harg1 arg2 harg2 arg3 harg3 arg4 harg4 arg5 harg5 arg6 harg6 arg7 harg7 arg8 harg8 x0 x1 x2 x3 x4 x5 x6 x7 arg10 arg14))) x).trans (tile_half (fun p => (rowAt x0 x1 x2 x3 x4 x5 x6 x7 p).yScale) 0 (by norm_num) 0 rfl
      (yscale_at0 c arg1 harg1 arg2 harg2 arg3 harg3 arg4 harg4 arg5 harg5 arg6 harg6 arg7 harg7 arg8 harg8 x0 x1 x2 x3 x4 x5 x6 x7 arg10 arg14) x _ (line_eq 0 inb_S1x4x128_S1x2x128_0_0_0 x))
    dsimp only
    exact e

/-- The result block. -/
theorem out8_apply (y : S512x4608.Idx) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = yAt x0 x1 x2 x3 x4 x5 x6 x7 y := by
  unfold out0_A_8
  exact View.read_writes_apply_of_pieces (e := .bf16) _ _ (yAt x0 x1 x2 x3 x4 x5 x6 x7) _ (y_pieces1 c arg1 harg1 arg2 harg2 arg3 harg3 arg4 harg4 arg5 harg5 arg6 harg6 arg7 harg7 arg8 harg8 arg10 arg14 x0 x1 x2 x3 x4 x5 x6 x7) y (cover0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)

/-- The code block of the normalised rows. -/
theorem out9_apply (y : S512x1152.Idx) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = hCodeAt x0 x1 x2 y := by
  unfold out0_A_9
  exact View.read_writes_apply_of_pieces (e := .fp8e4m3) _ _ (hCodeAt x0 x1 x2) _ (codes_pieces c arg1 harg1 arg2 harg2 arg3 harg3 x0 x1 x2) y (cover0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)

/-- The scale block of the normalised rows. -/
theorem out10_apply (y : S1x4x128.Idx) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = hTileAt x0 x1 x2 y := by
  unfold out0_A_10
  exact View.read_writes_apply_of_pieces (e := .f32) _ _ (hTileAt x0 x1 x2) _ (htile_pieces c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) y (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)

/-- The code block of the result rows. -/
theorem out11_apply (y : S512x4608.Idx) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = yCodeAt x0 x1 x2 x3 x4 x5 x6 x7 y := by
  unfold out0_A_11
  exact View.read_writes_apply_of_pieces (e := .fp8e4m3) _ _ (yCodeAt x0 x1 x2 x3 x4 x5 x6 x7) _ (ycode_pieces c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) y (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)

/-- The scale block of the result rows. -/
theorem out12_apply (y : S1x4x128.Idx) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y = yTileAt x0 x1 x2 x3 x4 x5 x6 x7 y := by
  unfold out0_A_12
  exact View.read_writes_apply_of_pieces (e := .f32) _ _ (yTileAt x0 x1 x2 x3 x4 x5 x6 x7) _ (ytile_pieces c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7) y (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 y)

end

end Cert.Block
-- ==== Proof.Reference.lean ====
/-
  What the reference computes: each of its five results, at an index, is the row function of Row.lean of that row's data.
-/
module

public import proofs.«01_k».proof.Proof.Row
public import proofs.«01_k».proof.Proof.Gen.ReferenceIdeal.Value
public import Idealize.ShloMosaic.Lib.Pointwise

@[expose] public section

set_option maxRecDepth 16384

noncomputable section

open Idealize.ShloMosaic Cert.ReferenceIdeal Cert.ReferenceIdeal.Gen

namespace Cert.Ref

/-- The batch a row of the flat results belongs to. -/
def batch (r : Fin 24576) : Fin 24 := ⟨r.val / 1024, by omega⟩
/-- Its position in the batch. -/
def pos (r : Fin 24576) : Fin 1024 := ⟨r.val % 1024, by omega⟩
/-- The row whose scale the tiled results hold at an index: 512 rows to a tile, 128 to a line of it. -/
def tileRow (y : S48x4x128.Idx) : Fin 24576 :=
  ⟨512 * (y 0).val + 128 * (y 1).val + (y 2).val,
    by have h0 : (y 0).val < 48 := (y 0).isLt; have h1 : (y 1).val < 4 := (y 1).isLt
       have h2 : (y 2).val < 128 := (y 2).isLt; omega⟩

/-! ### One operation or two at an index, over vectors left as variables -/

section Elementwise

theorem max_apply (v : FVec Ideal S24x1024x1152 .f32) (j : S24x1024.Idx) :
    multiReduction (F := Ideal) .maximumf [2] S24x1024 (absf v) 0xFF800000#32 reduces_S24x1024x1152_S24x1024 (.inl rfl) rfl j
      = Finset.univ.fold max (Ideal.ofBits .f32 0xFF800000#32) fun k => Row.mag (v (ix3 (j 0) (j 1) k)) := by
  pointwise
  rfl

theorem over_apply (m : FVec Ideal S24x1024 .f32) (j : S24x1024x1.Idx) :
    mulf (shapeCast S24x1024x1 m shapeCasts_S24x1024_S24x1024x1)
        (broadcast S24x1024x1 (Scalar.ofBits (F := Ideal) .f32 0x3B124925#32)) j
      = m (ix2 (j 0) (j 1)) * Ideal.ofBits .f32 0x3B124925#32 := by
  pointwise

/-- A row's largest magnitude over 448. -/
theorem peakV_apply (v : FVec Ideal S24x1024x1152 .f32) (j : S24x1024x1.Idx) :
    mulf (shapeCast S24x1024x1 (multiReduction (F := Ideal) .maximumf [2] S24x1024 (absf v) 0xFF800000#32
        reduces_S24x1024x1152_S24x1024 (.inl rfl) rfl) shapeCasts_S24x1024_S24x1024x1)
        (broadcast S24x1024x1 (Scalar.ofBits (F := Ideal) .f32 0x3B124925#32)) j
      = Row.peak fun k => v (ix3 (j 0) (j 1) k) := by
  rw [over_apply, max_apply]
  rfl

theorem pow_apply (v : FVec Ideal S24x1024x1 .f32) (j : S24x1024x1.Idx) : exp2 v j = Ideal.exp2 (v j) := rfl

/-- The exponent, computed from a column of peaks. -/
theorem expoV_apply (v : FVec Ideal S24x1024x1 .f32) (j : S24x1024x1.Idx) :
    k0_pay4 (F := Ideal) v (addf (floor (divf (log v) (log (broadcast S24x1024x1 (Scalar.ofBits .f32 0x40000000#32)))))
      (broadcast S24x1024x1 (Scalar.ofBits .f32 0x3F800000#32))) (Scalar.ofBits .f32 0x42FC0000#32) j = Pow2.expo (v j) := by
  unfold k0_pay4
  rw [Pow2.expo_if]
  pointwise

theorem codeV_apply (v : FVec Ideal S24x1024x1152 .f32) (a b : FVec Ideal S24x1024x1 .f32) (c : Ideal .f32)
    (j : S24x1024x1152.Idx) :
    k0_pay5 (F := Ideal) v a b c j = min (Ideal.ofBits .f32 0x43E00000#32) (max (Ideal.ofBits .f32 0xC3E00000#32)
      (v j * Ideal.exp2 (Ideal.ofBits .f32 0x00000000#32 - k0_pay4 a b c (ix3 (j 0) (j 1) 0)))) := by
  unfold k0_pay5
  generalize k0_pay4 (F := Ideal) a b c = e
  rw [Pow2.zero_eq]
  pointwise
  rfl

/-- The product with the weights, on the rows laid out as one list and laid back. -/
theorem dotV_apply (q : FVec Ideal S24x1024x1152 .fp8e4m3) (w : FVec Ideal S1152x4608 .fp8e4m3) (j : S24x1024x4608.Idx) :
    shapeCast S24x1024x4608 (matmul dot_S24576x1152_S1152x4608_S24576x4608_1_0_0_1_n_n none
        (shapeCast S24576x1152 q shapeCasts_S24x1024x1152_S24576x1152) w
        (constant (F := Ideal) S24576x4608 .f32 0x00000000#32)) shapeCasts_S24576x4608_S24x1024x4608 j
      = ∑ k : Fin 1152, q (ix3 (j 0) (j 1) k) * w (ix2 k (j 2)) := by
  pointwise

theorem linV_apply (p : FVec Ideal S24x1024x4608 .f32) (s : FVec Ideal S24x1024x1 .f32) (ws : FVec Ideal S4608 .f32)
    (bias : FVec Ideal S4608 .bf16) (gate : FVec Ideal S24x4608 .bf16) (resid : FVec Ideal S24x1024x4608 .bf16)
    (j : S24x1024x4608.Idx) :
    truncf .bf16 (addf (extf .f32 resid bitsLt_bf16_f32) (mulf (addf (mulf (mulf p
        (broadcastTo S24x1024x4608 s broadcasts_S24x1024x1_S24x1024x4608))
        (broadcastTo S24x1024x4608 (shapeCast S1x1x4608 ws shapeCasts_S4608_S1x1x4608) broadcasts_S1x1x4608_S24x1024x4608))
        (broadcastTo S24x1024x4608 (shapeCast S1x1x4608 (extf .f32 bias bitsLt_bf16_f32) shapeCasts_S4608_S1x1x4608)
          broadcasts_S1x1x4608_S24x1024x4608))
        (broadcastTo S24x1024x4608 (shapeCast S24x1x4608 (extf .f32 gate bitsLt_bf16_f32) shapeCasts_S24x4608_S24x1x4608)
          broadcasts_S24x1x4608_S24x1024x4608))) bitsLt_bf16_f32 j
      = resid j + (p j * s (ix3 (j 0) (j 1) 0) * ws (ix1 (j 2)) + bias (ix1 (j 2))) * gate (ix2 (j 0) (j 2)) := by
  pointwise

theorem flatY_apply (v : FVec Ideal S24x1024x4608 .bf16) (y : S24576x4608.Idx) :
    k0_pay11 (F := Ideal) v y = v (ix3 (batch (y 0)) (pos (y 0)) (y 1)) := by
  unfold k0_pay11
  pointwise
  rfl

theorem flatH_apply (v : FVec Ideal S24x1024x1152 .fp8e4m3) (y : S24576x1152.Idx) :
    k0_pay12 (F := Ideal) v y = v (ix3 (batch (y 0)) (pos (y 0)) (y 1)) := by
  unfold k0_pay12
  pointwise
  rfl

theorem tile_apply (v : FVec Ideal S24x1024x1 .f32) (y : S48x4x128.Idx) :
    k0_pay13 (F := Ideal) v y = v (ix3 (batch (tileRow y)) (pos (tileRow y)) 0) := by
  unfold k0_pay13
  pointwise
  have hb : (⟨(y 0).val / 2, by have h0 : (y 0).val < 48 := (y 0).isLt; omega⟩ : Fin 24) = batch (tileRow y) := by
    apply Fin.ext
    show (y 0).val / 2 = (512 * (y 0).val + 128 * (y 1).val + (y 2).val) / 1024
    have h1 : (y 1).val < 4 := (y 1).isLt
    have h2 : (y 2).val < 128 := (y 2).isLt
    omega
  have hp : (⟨(y 0).val % 2 * 512 + (y 1).val * 128 + (y 2).val, by
      have h1 : (y 1).val < 4 := (y 1).isLt; have h2 : (y 2).val < 128 := (y 2).isLt; omega⟩ : Fin 1024)
      = pos (tileRow y) := by
    apply Fin.ext
    show (y 0).val % 2 * 512 + (y 1).val * 128 + (y 2).val = (512 * (y 0).val + 128 * (y 1).val + (y 2).val) % 1024
    have h1 : (y 1).val < 4 := (y 1).isLt
    have h2 : (y 2).val < 128 := (y 2).isLt
    omega
  exact congrArg₂ (fun b p => v (ix3 b p 0)) hb hp

theorem maxY_apply (v : FVec Ideal S24x1024x4608 .f32) (j : S24x1024.Idx) :
    multiReduction (F := Ideal) .maximumf [2] S24x1024 (absf v) 0xFF800000#32 reduces_S24x1024x4608_S24x1024 (.inl rfl) rfl j
      = Finset.univ.fold max (Ideal.ofBits .f32 0xFF800000#32) fun k => Row.mag (v (ix3 (j 0) (j 1) k)) := by
  pointwise
  rfl

theorem peakY_apply (v : FVec Ideal S24x1024x4608 .f32) (b : Fin 24) (s : Fin 1024) :
    multiReduction (F := Ideal) .maximumf [2] S24x1024 (absf v) 0xFF800000#32 reduces_S24x1024x4608_S24x1024 (.inl rfl) rfl
        (ix2 b s) * Ideal.ofBits .f32 0x3B124925#32 = Row.peak fun n => v (ix3 b s n) := by
  rw [maxY_apply]
  rfl

/-- The exponent of a row of the result, from its largest magnitude. -/
theorem expoY_apply (m : FVec Ideal S24x1024 .f32) (j : S24x1024x1.Idx) :
    k0_pay10 (F := Ideal) m j = Pow2.expo (m (ix2 (j 0) (j 1)) * Ideal.ofBits .f32 0x3B124925#32) := by
  unfold k0_pay10
  rw [Pow2.expo_if]
  pointwise

theorem codeY_apply (v : FVec Ideal S24x1024x4608 .f32) (m : FVec Ideal S24x1024 .f32) (y : S24576x4608.Idx) :
    k0_pay14 (F := Ideal) v m y = min (Ideal.ofBits .f32 0x43E00000#32) (max (Ideal.ofBits .f32 0xC3E00000#32)
      (v (ix3 (batch (y 0)) (pos (y 0)) (y 1))
        * Ideal.exp2 (Ideal.ofBits .f32 0x00000000#32 - k0_pay10 m (ix3 (batch (y 0)) (pos (y 0)) 0)))) := by
  unfold k0_pay14
  generalize k0_pay10 (F := Ideal) m = e
  rw [Pow2.zero_eq]
  pointwise
  rfl

theorem tileExp_apply (m : FVec Ideal S24x1024 .f32) (y : S48x4x128.Idx) :
    k0_pay15 (F := Ideal) m y = Ideal.exp2 (k0_pay10 m (ix3 (batch (tileRow y)) (pos (tileRow y)) 0)) := by
  unfold k0_pay15
  generalize k0_pay10 (F := Ideal) m = e
  exact tile_apply (exp2 e) y

end Elementwise

section Norm

variable (x : FVec Ideal S24x1024x1152 .bf16) (scale shift : FVec Ideal S24x1152 .bf16)

/-- The normalised row at batch `b`, position `s`. -/
def normRow (b : Fin 24) (s : Fin 1024) : Fin 1152 → EReal :=
  Row.norm (fun k => x (ix3 b s k)) (fun k => scale (ix2 b k)) (fun k => shift (ix2 b k))

theorem norm_apply (j : S24x1024x1152.Idx) :
    k0_pay1 (F := Ideal) x scale shift j = normRow x scale shift (j 0) (j 1) (j 2) := by
  unfold k0_pay1 normRow Row.norm Row.centred Row.mean
  pointwise

theorem peak_apply (j : S24x1024x1.Idx) :
    k0_pay2 (F := Ideal) x scale shift j = Row.peak (normRow x scale shift (j 0) (j 1)) :=
  (peakV_apply (k0_pay1 x scale shift) j).trans
    (congrArg Row.peak (funext fun k => norm_apply x scale shift (ix3 (j 0) (j 1) k)))

/-- The exponent of the row's scale. -/
theorem expo_apply (j : S24x1024x1.Idx) :
    k0_pay4 (F := Ideal) (k0_pay2 x scale shift) (k0_pay3 x scale shift) (Scalar.ofBits .f32 0x42FC0000#32) j
      = Pow2.expo (Row.peak (normRow x scale shift (j 0) (j 1))) :=
  (expoV_apply (k0_pay2 x scale shift) j).trans (congrArg Pow2.expo (peak_apply x scale shift j))

theorem scale_apply (j : S24x1024x1.Idx) :
    k0_pay6 (F := Ideal) (k0_pay2 x scale shift) (k0_pay3 x scale shift) (Scalar.ofBits .f32 0x42FC0000#32) j
      = Pow2.scaleR (Row.peak (normRow x scale shift (j 0) (j 1))) :=
  (pow_apply _ j).trans (congrArg Ideal.exp2 (expo_apply x scale shift j))

theorem code_apply (j : S24x1024x1152.Idx) :
    k0_pay5 (F := Ideal) (k0_pay1 x scale shift) (k0_pay2 x scale shift) (k0_pay3 x scale shift)
        (Scalar.ofBits .f32 0x42FC0000#32) j
      = Row.code (Row.peak (normRow x scale shift (j 0) (j 1))) (normRow x scale shift (j 0) (j 1) (j 2)) :=
  (codeV_apply _ _ _ _ j).trans (congrArg₂ (fun v e => min (Ideal.ofBits .f32 0x43E00000#32)
    (max (Ideal.ofBits .f32 0xC3E00000#32) (v * Ideal.exp2 (Ideal.ofBits .f32 0x00000000#32 - e))))
    (norm_apply x scale shift j) (expo_apply x scale shift (ix3 (j 0) (j 1) 0)))

end Norm

section Result

variable (a0 : FVec Ideal S24x1024x1152 .bf16) (a1 a2 : FVec Ideal S24x1152 .bf16) (a3 : FVec Ideal S24x4608 .bf16)
  (a4 : FVec Ideal S24x1024x4608 .bf16) (a5 : FVec Ideal S1152x4608 .fp8e4m3) (a6 : FVec Ideal S4608 .f32)
  (a7 : FVec Ideal S4608 .bf16)

/-- What the row at batch `b`, position `s` depends on. -/
def refRow (b : Fin 24) (s : Fin 1024) : Row.Data where
  x k := a0 (ix3 b s k)
  shift k := a1 (ix2 b k)
  scale k := a2 (ix2 b k)
  gate n := a3 (ix2 b n)
  resid n := a4 (ix3 b s n)
  w k n := a5 (ix2 k n)
  wscale n := a6 (ix1 n)
  bias n := a7 (ix1 n)

/-- The result before it is flattened. -/
abbrev yV : FVec Ideal S24x1024x4608 .bf16 :=
  k0_pay7 (F := Ideal) (k0_pay1 a0 a2 a1) (k0_pay2 a0 a2 a1) (k0_pay3 a0 a2 a1) (Scalar.ofBits .f32 0x42FC0000#32)
    a5 a6 a7 a3 a4

theorem dot_apply (j : S24x1024x4608.Idx) :
    (∑ k : Fin 1152, k0_pay5 (F := Ideal) (k0_pay1 a0 a2 a1) (k0_pay2 a0 a2 a1) (k0_pay3 a0 a2 a1)
        (Scalar.ofBits .f32 0x42FC0000#32) (ix3 (j 0) (j 1) k) * a5 (ix2 k (j 2)))
      = ∑ k, (refRow a0 a1 a2 a3 a4 a5 a6 a7 (j 0) (j 1)).hCode k * a5 (ix2 k (j 2)) :=
  Finset.sum_congr rfl fun k _ => congrArg (· * a5 (ix2 k (j 2))) (code_apply a0 a2 a1 (ix3 (j 0) (j 1) k))

theorem y_apply (b : Fin 24) (s : Fin 1024) (n : Fin 4608) :
    yV a0 a1 a2 a3 a4 a5 a6 a7 (ix3 b s n) = (refRow a0 a1 a2 a3 a4 a5 a6 a7 b s).y n := by
  refine (linV_apply _ _ a6 a7 a3 a4 (ix3 b s n)).trans ?_
  rw [dotV_apply, dot_apply a0 a1 a2 a3 a4 a5 a6 a7 (ix3 b s n)]
  exact congrArg (fun t => a4 (ix3 b s n) + ((∑ k, (refRow a0 a1 a2 a3 a4 a5 a6 a7 b s).hCode k * a5 (ix2 k n)) * t
    * a6 (ix1 n) + a7 (ix1 n)) * a3 (ix2 b n)) (scale_apply a0 a2 a1 (ix3 b s 0))

/-- The result in f32, and the largest magnitude of each of its rows. -/
abbrev yF : FVec Ideal S24x1024x4608 .f32 :=
  k0_pay8 (F := Ideal) (k0_pay1 a0 a2 a1) (k0_pay2 a0 a2 a1) (k0_pay3 a0 a2 a1) (Scalar.ofBits .f32 0x42FC0000#32)
    a5 a6 a7 a3 a4
abbrev yMax : FVec Ideal S24x1024 .f32 :=
  k0_pay9 (F := Ideal) (k0_pay1 a0 a2 a1) (k0_pay2 a0 a2 a1) (k0_pay3 a0 a2 a1) (Scalar.ofBits .f32 0x42FC0000#32)
    a5 a6 a7 a3 a4

theorem yF_apply (b : Fin 24) (s : Fin 1024) (n : Fin 4608) :
    yF a0 a1 a2 a3 a4 a5 a6 a7 (ix3 b s n) = (refRow a0 a1 a2 a3 a4 a5 a6 a7 b s).y n :=
  y_apply a0 a1 a2 a3 a4 a5 a6 a7 b s n

theorem yPeak_apply (b : Fin 24) (s : Fin 1024) :
    yMax a0 a1 a2 a3 a4 a5 a6 a7 (ix2 b s) * Ideal.ofBits .f32 0x3B124925#32
      = Row.peak (refRow a0 a1 a2 a3 a4 a5 a6 a7 b s).y :=
  (peakY_apply (yF a0 a1 a2 a3 a4 a5 a6 a7) b s).trans
    (congrArg Row.peak (funext fun n => yF_apply a0 a1 a2 a3 a4 a5 a6 a7 b s n))

theorem yExpo_apply (b : Fin 24) (s : Fin 1024) :
    k0_pay10 (F := Ideal) (yMax a0 a1 a2 a3 a4 a5 a6 a7) (ix3 b s 0)
      = Pow2.expo (Row.peak (refRow a0 a1 a2 a3 a4 a5 a6 a7 b s).y) :=
  (expoY_apply _ (ix3 b s 0)).trans (congrArg Pow2.expo (yPeak_apply a0 a1 a2 a3 a4 a5 a6 a7 b s))

/-! ### The five results -/

theorem ld_x : View.ld (S := S24x1024x1152) (Val := Elt Ideal) (e' := .bf16) a0 r0_0 = a0 :=
  View.ld_unit_zero (S := S24x1024x1152) (Val := Elt Ideal) (e := .bf16) Value.hz0 _ a0
theorem ld_vec : View.ld (S := S24x1152) (Val := Elt Ideal) (e' := .bf16) a1 r0_1 = a1 :=
  View.ld_unit_zero (S := S24x1152) (Val := Elt Ideal) (e := .bf16) Value.hz1 _ a1
theorem ld_gate : View.ld (S := S24x4608) (Val := Elt Ideal) (e' := .bf16) a3 r0_4 = a3 :=
  View.ld_unit_zero (S := S24x4608) (Val := Elt Ideal) (e := .bf16) Value.hz3 _ a3
theorem ld_resid : View.ld (S := S24x1024x4608) (Val := Elt Ideal) (e' := .bf16) a4 r0_5 = a4 :=
  View.ld_unit_zero (S := S24x1024x4608) (Val := Elt Ideal) (e := .bf16) Value.hz4 _ a4
theorem ld_w : View.ld (S := S1152x4608) (Val := Elt Ideal) (e' := .fp8e4m3) a5 r0_2 = a5 :=
  View.ld_unit_zero (S := S1152x4608) (Val := Elt Ideal) (e := .fp8e4m3) Value.hz5 _ a5
theorem ld_wscale : View.ld (S := S4608) (Val := Elt Ideal) (e' := .f32) a6 r0_3 = a6 :=
  View.ld_unit_zero (S := S4608) (Val := Elt Ideal) (e := .f32) Value.hz6 _ a6
theorem ld_bias : View.ld (S := S4608) (Val := Elt Ideal) (e' := .bf16) a7 r0_3 = a7 :=
  View.ld_unit_zero (S := S4608) (Val := Elt Ideal) (e := .bf16) Value.hz7 _ a7

theorem pay16_eq : k0_pay16 (F := Ideal) a0 a1 a2 a3 a4 a5 a6 a7 = k0_pay1 a0 a2 a1 := by
  unfold k0_pay16
  rw [ld_x, ld_vec, ld_vec]

theorem pay17_eq : k0_pay17 (F := Ideal) a0 a1 a2 a3 a4 a5 a6 a7 = k0_pay2 a0 a2 a1 := by
  unfold k0_pay17
  rw [ld_x, ld_vec, ld_vec]

theorem pay18_eq : k0_pay18 (F := Ideal) a0 a1 a2 a3 a4 a5 a6 a7 = k0_pay3 a0 a2 a1 := by
  unfold k0_pay18
  rw [ld_x, ld_vec, ld_vec]

theorem pay19_eq : k0_pay19 (F := Ideal) a0 a1 a2 a3 a4 a5 a6 a7 = yMax a0 a1 a2 a3 a4 a5 a6 a7 := by
  unfold k0_pay19
  rw [pay16_eq, pay17_eq, pay18_eq, ld_w, ld_wscale, ld_bias, ld_gate, ld_resid]

/-- The row at a flat row number. -/
abbrev flatRow (r : Fin 24576) : Row.Data := refRow a0 a1 a2 a3 a4 a5 a6 a7 (batch r) (pos r)

theorem g8_apply (y : S24576x4608.Idx) : Value.G8 (F := Ideal) a0 a1 a2 a3 a4 a5 a6 a7 y
    = (flatRow a0 a1 a2 a3 a4 a5 a6 a7 (y 0)).y (y 1) := by
  unfold Value.G8
  rw [pay16_eq, pay17_eq, pay18_eq]
  exact (flatY_apply _ y).trans (y_apply a0 a1 a2 a3 a4 a5 a6 a7 _ _ _)

theorem g9_apply (y : S24576x1152.Idx) : Value.G9 (F := Ideal) a0 a1 a2 a3 a4 a5 a6 a7 y
    = (flatRow a0 a1 a2 a3 a4 a5 a6 a7 (y 0)).hCode (y 1) := by
  unfold Value.G9
  rw [pay16_eq, pay17_eq, pay18_eq]
  exact (flatH_apply _ y).trans (code_apply a0 a2 a1 _)

theorem g10_apply (y : S48x4x128.Idx) : Value.G10 (F := Ideal) a0 a1 a2 a3 a4 a5 a6 a7 y
    = (flatRow a0 a1 a2 a3 a4 a5 a6 a7 (tileRow y)).hScale := by
  unfold Value.G10
  rw [pay17_eq, pay18_eq]
  exact (tile_apply _ y).trans (scale_apply a0 a2 a1 _)

theorem g11_apply (y : S24576x4608.Idx) : Value.G11 (F := Ideal) a0 a1 a2 a3 a4 a5 a6 a7 y
    = (flatRow a0 a1 a2 a3 a4 a5 a6 a7 (y 0)).yCode (y 1) := by
  unfold Value.G11
  rw [pay16_eq, pay17_eq, pay18_eq, pay19_eq]
  exact (codeY_apply _ _ y).trans (congrArg₂ (fun v e => min (Ideal.ofBits .f32 0x43E00000#32)
    (max (Ideal.ofBits .f32 0xC3E00000#32) (v * Ideal.exp2 (Ideal.ofBits .f32 0x00000000#32 - e))))
    (yF_apply a0 a1 a2 a3 a4 a5 a6 a7 _ _ _) (yExpo_apply a0 a1 a2 a3 a4 a5 a6 a7 _ _))

theorem g12_apply (y : S48x4x128.Idx) : Value.G12 (F := Ideal) a0 a1 a2 a3 a4 a5 a6 a7 y
    = (flatRow a0 a1 a2 a3 a4 a5 a6 a7 (tileRow y)).yScale := by
  unfold Value.G12
  rw [pay19_eq]
  exact (tileExp_apply _ y).trans (congrArg Ideal.exp2 (yExpo_apply a0 a1 a2 a3 a4 a5 a6 a7 _ _))

end Result

end Cert.Ref

end
-- ==== Proof.Blocks.lean ====
/-
  Where the blocks lie. The grid has 48 points: block `t` of a flat array is its rows from `512 t` on, the batch of
  those rows is `t / 2`, and the weights, their scales and the bias are read whole at every point. So the data of row
  `p` of point `t`, read off the point's input blocks, is the reference's data of row `512 t + p`.
-/
module

public import proofs.«01_k».proof.Proof.OutBlock
public import proofs.«01_k».proof.Proof.Reference
public import proofs.«01_k».proof.Proof.Gen.KernelIdeal.Value
public import Idealize.ShloMosaic.Lib.Claim

@[expose] public section

set_option maxRecDepth 16384

noncomputable section

open Idealize.ShloMosaic Idealize.ShloMosaic.TcCoe Cert.KernelIdeal Cert.KernelIdeal.Gen

namespace Cert.Blocks

/-- Row `p` of block `t`. -/
abbrev row (t : Fin cfg0.N) (p : Fin 512) : Fin 24576 :=
  ⟨512 * t.val + p.val, by have h : t.val < 48 := t.isLt; omega⟩

theorem batch_row (t : Fin cfg0.N) (p : Fin 512) : (Ref.batch (row t p)).val = t.val / 2 := by
  show (512 * t.val + p.val) / 1024 = t.val / 2
  omega

/-! ### The windows' index maps, and where a block's index lies in its array -/

theorem idx0 : ∀ t : Fin cfg0.N, win0_0.index t 0 = t.val ∧ win0_0.index t 1 = 0 :=
  (by decide +kernel : ∀ t : Fin grid0.N, win0_0.index t 0 = t.val ∧ win0_0.index t 1 = 0)

theorem emb0 (t : Fin cfg0.N) (j : S512x1152.Idx) : ((cfg0.win 0).blk t).view.emb j = ix2 (n0 := 24576) (n1 := 1152) (row t (j 0)) (j 1) := by
  obtain ⟨e0, e1⟩ := idx0 t
  funext a; apply Fin.ext
  match a with
  | ⟨0, _⟩ => show win0_0.index t (0 : Fin 2) * 512 + 1 * (j 0).val = 512 * t.val + (j 0).val; omega
  | ⟨1, _⟩ => show win0_0.index t (1 : Fin 2) * 1152 + 1 * (j 1).val = (j 1).val; omega

theorem idx1 : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)

theorem emb1 (t : Fin cfg0.N) (j : S1x1x1152.Idx) : ((cfg0.win 1).blk t).view.emb j = ix3 (n0 := 24) (n1 := 1) (n2 := 1152) (Ref.batch (row t 0)) (j 1) (j 2) := by
  obtain ⟨e0, e1, e2⟩ := idx1 t
  have h0 : (j 0).val < 1 := (j 0).isLt
  have hb := batch_row t 0
  funext a; apply Fin.ext
  match a with
  | ⟨0, _⟩ => show win0_1.index t (0 : Fin 3) * 1 + 1 * (j 0).val = (Ref.batch (row t 0)).val; omega
  | ⟨1, _⟩ => show win0_1.index t (1 : Fin 3) * 1 + 1 * (j 1).val = (j 1).val; omega
  | ⟨2, _⟩ => show win0_1.index t (2 : Fin 3) * 1152 + 1 * (j 2).val = (j 2).val; omega

theorem idx2 : ∀ t : Fin cfg0.N, win0_2.index t 0 = t.val / 2 ∧ win0_2.index t 1 = 0 ∧ win0_2.index t 2 = 0 :=
  (by decide +kernel : ∀ t : Fin grid0.N, win0_2.index t 0 = t.val / 2 ∧ win0_2.index t 1 = 0 ∧ win0_2.index t 2 = 0)

theorem emb2 (t : Fin cfg0.N) (j : S1x1x1152.Idx) : ((cfg0.win 2).blk t).view.emb j = ix3 (n0 := 24) (n1 := 1) (n2 := 1152) (Ref.batch (row t 0)) (j 1) (j 2) := by
  obtain ⟨e0, e1, e2⟩ := idx2 t
  have h0 : (j 0).val < 1 := (j 0).isLt
  have hb := batch_row t 0
  funext a; apply Fin.ext
  match a with
  | ⟨0, _⟩ => show win0_2.index t (0 : Fin 3) * 1 + 1 * (j 0).val = (Ref.batch (row t 0)).val; omega
  | ⟨1, _⟩ => show win0_2.index t (1 : Fin 3) * 1 + 1 * (j 1).val = (j 1).val; omega
  | ⟨2, _⟩ => show win0_2.index t (2 : Fin 3) * 1152 + 1 * (j 2).val = (j 2).val; omega

theorem idx3 : ∀ t : Fin cfg0.N, win0_3.index t 0 = t.val / 2 ∧ win0_3.index t 1 = 0 ∧ win0_3.index t 2 = 0 :=
  (by decide +kernel : ∀ t : Fin grid0.N, win0_3.index t 0 = t.val / 2 ∧ win0_3.index t 1 = 0 ∧ win0_3.index t 2 = 0)

theorem emb3 (t : Fin cfg0.N) (j : S1x1x4608.Idx) : ((cfg0.win 3).blk t).view.emb j = ix3 (n0 := 24) (n1 := 1) (n2 := 4608) (Ref.batch (row t 0)) (j 1) (j 2) := by
  obtain ⟨e0, e1, e2⟩ := idx3 t
  have h0 : (j 0).val < 1 := (j 0).isLt
  have hb := batch_row t 0
  funext a; apply Fin.ext
  match a with
  | ⟨0, _⟩ => show win0_3.index t (0 : Fin 3) * 1 + 1 * (j 0).val = (Ref.batch (row t 0)).val; omega
  | ⟨1, _⟩ => show win0_3.index t (1 : Fin 3) * 1 + 1 * (j 1).val = (j 1).val; omega
  | ⟨2, _⟩ => show win0_3.index t (2 : Fin 3) * 4608 + 1 * (j 2).val = (j 2).val; omega

theorem idx4 : ∀ t : Fin cfg0.N, win0_4.index t 0 = t.val ∧ win0_4.index t 1 = 0 :=
  (by decide +kernel : ∀ t : Fin grid0.N, win0_4.index t 0 = t.val ∧ win0_4.index t 1 = 0)

theorem emb4 (t : Fin cfg0.N) (j : S512x4608.Idx) : ((cfg0.win 4).blk t).view.emb j = ix2 (n0 := 24576) (n1 := 4608) (row t (j 0)) (j 1) := by
  obtain ⟨e0, e1⟩ := idx4 t
  funext a; apply Fin.ext
  match a with
  | ⟨0, _⟩ => show win0_4.index t (0 : Fin 2) * 512 + 1 * (j 0).val = 512 * t.val + (j 0).val; omega
  | ⟨1, _⟩ => show win0_4.index t (1 : Fin 2) * 4608 + 1 * (j 1).val = (j 1).val; omega

theorem idx5 : ∀ t : Fin cfg0.N, win0_5.index t 0 = 0 ∧ win0_5.index t 1 = 0 :=
  (by decide +kernel : ∀ t : Fin grid0.N, win0_5.index t 0 = 0 ∧ win0_5.index t 1 = 0)

theorem emb5 (t : Fin cfg0.N) (j : S1152x4608.Idx) : ((cfg0.win 5).blk t).view.emb j = j := by
  obtain ⟨e0, e1⟩ := idx5 t
  funext a; apply Fin.ext
  match a with
  | ⟨0, _⟩ => show win0_5.index t (0 : Fin 2) * 1152 + 1 * (j 0).val = (j 0).val; omega
  | ⟨1, _⟩ => show win0_5.index t (1 : Fin 2) * 4608 + 1 * (j 1).val = (j 1).val; omega

theorem idx6 : ∀ t : Fin cfg0.N, win0_6.index t 0 = 0 ∧ win0_6.index t 1 = 0 :=
  (by decide +kernel : ∀ t : Fin grid0.N, win0_6.index t 0 = 0 ∧ win0_6.index t 1 = 0)

theorem emb6 (t : Fin cfg0.N) (j : S1x4608.Idx) : ((cfg0.win 6).blk t).view.emb j = j := by
  obtain ⟨e0, e1⟩ := idx6 t
  funext a; apply Fin.ext
  match a with
  | ⟨0, _⟩ => show win0_6.index t (0 : Fin 2) * 1 + 1 * (j 0).val = (j 0).val; omega
  | ⟨1, _⟩ => show win0_6.index t (1 : Fin 2) * 4608 + 1 * (j 1).val = (j 1).val; omega

theorem idx7 : ∀ t : Fin cfg0.N, win0_7.index t 0 = 0 ∧ win0_7.index t 1 = 0 :=
  (by decide +kernel : ∀ t : Fin grid0.N, win0_7.index t 0 = 0 ∧ win0_7.index t 1 = 0)

theorem emb7 (t : Fin cfg0.N) (j : S1x4608.Idx) : ((cfg0.win 7).blk t).view.emb j = j := by
  obtain ⟨e0, e1⟩ := idx7 t
  funext a; apply Fin.ext
  match a with
  | ⟨0, _⟩ => show win0_7.index t (0 : Fin 2) * 1 + 1 * (j 0).val = (j 0).val; omega
  | ⟨1, _⟩ => show win0_7.index t (1 : Fin 2) * 4608 + 1 * (j 1).val = (j 1).val; omega

theorem idx8 : ∀ t : Fin cfg0.N, win0_8.index t 0 = t.val ∧ win0_8.index t 1 = 0 :=
  (by decide +kernel : ∀ t : Fin grid0.N, win0_8.index t 0 = t.val ∧ win0_8.index t 1 = 0)

theorem emb8 (t : Fin cfg0.N) (j : S512x4608.Idx) : ((cfg0.win 8).blk t).view.emb j = ix2 (n0 := 24576) (n1 := 4608) (row t (j 0)) (j 1) := by
  obtain ⟨e0, e1⟩ := idx8 t
  funext a; apply Fin.ext
  match a with
  | ⟨0, _⟩ => show win0_8.index t (0 : Fin 2) * 512 + 1 * (j 0).val = 512 * t.val + (j 0).val; omega
  | ⟨1, _⟩ => show win0_8.index t (1 : Fin 2) * 4608 + 1 * (j 1).val = (j 1).val; omega

theorem idx9 : ∀ t : Fin cfg0.N, win0_9.index t 0 = t.val ∧ win0_9.index t 1 = 0 :=
  (by decide +kernel : ∀ t : Fin grid0.N, win0_9.index t 0 = t.val ∧ win0_9.index t 1 = 0)

theorem emb9 (t : Fin cfg0.N) (j : S512x1152.Idx) : ((cfg0.win 9).blk t).view.emb j = ix2 (n0 := 24576) (n1 := 1152) (row t (j 0)) (j 1) := by
  obtain ⟨e0, e1⟩ := idx9 t
  funext a; apply Fin.ext
  match a with
  | ⟨0, _⟩ => show win0_9.index t (0 : Fin 2) * 512 + 1 * (j 0).val = 512 * t.val + (j 0).val; omega
  | ⟨1, _⟩ => show win0_9.index t (1 : Fin 2) * 1152 + 1 * (j 1).val = (j 1).val; omega

theorem idx10 : ∀ t : Fin cfg0.N, win0_10.index t 0 = t.val ∧ win0_10.index t 1 = 0 ∧ win0_10.index t 2 = 0 :=
  (by decide +kernel : ∀ t : Fin grid0.N, win0_10.index t 0 = t.val ∧ win0_10.index t 1 = 0 ∧ win0_10.index t 2 = 0)

theorem emb10 (t : Fin cfg0.N) (j : S1x4x128.Idx) : ((cfg0.win 10).blk t).view.emb j = ix3 (n0 := 48) (n1 := 4) (n2 := 128) t (j 1) (j 2) := by
  obtain ⟨e0, e1, e2⟩ := idx10 t
  have h0 : (j 0).val < 1 := (j 0).isLt
  funext a; apply Fin.ext
  match a with
  | ⟨0, _⟩ => show win0_10.index t (0 : Fin 3) * 1 + 1 * (j 0).val = t.val; omega
  | ⟨1, _⟩ => show win0_10.index t (1 : Fin 3) * 4 + 1 * (j 1).val = (j 1).val; omega
  | ⟨2, _⟩ => show win0_10.index t (2 : Fin 3) * 128 + 1 * (j 2).val = (j 2).val; omega

theorem idx11 : ∀ t : Fin cfg0.N, win0_11.index t 0 = t.val ∧ win0_11.index t 1 = 0 :=
  (by decide +kernel : ∀ t : Fin grid0.N, win0_11.index t 0 = t.val ∧ win0_11.index t 1 = 0)

theorem emb11 (t : Fin cfg0.N) (j : S512x4608.Idx) : ((cfg0.win 11).blk t).view.emb j = ix2 (n0 := 24576) (n1 := 4608) (row t (j 0)) (j 1) := by
  obtain ⟨e0, e1⟩ := idx11 t
  funext a; apply Fin.ext
  match a with
  | ⟨0, _⟩ => show win0_11.index t (0 : Fin 2) * 512 + 1 * (j 0).val = 512 * t.val + (j 0).val; omega
  | ⟨1, _⟩ => show win0_11.index t (1 : Fin 2) * 4608 + 1 * (j 1).val = (j 1).val; omega

theorem idx12 : ∀ t : Fin cfg0.N, win0_12.index t 0 = t.val ∧ win0_12.index t 1 = 0 ∧ win0_12.index t 2 = 0 :=
  (by decide +kernel : ∀ t : Fin grid0.N, win0_12.index t 0 = t.val ∧ win0_12.index t 1 = 0 ∧ win0_12.index t 2 = 0)

theorem emb12 (t : Fin cfg0.N) (j : S1x4x128.Idx) : ((cfg0.win 12).blk t).view.emb j = ix3 (n0 := 48) (n1 := 4) (n2 := 128) t (j 1) (j 2) := by
  obtain ⟨e0, e1, e2⟩ := idx12 t
  have h0 : (j 0).val < 1 := (j 0).isLt
  funext a; apply Fin.ext
  match a with
  | ⟨0, _⟩ => show win0_12.index t (0 : Fin 3) * 1 + 1 * (j 0).val = t.val; omega
  | ⟨1, _⟩ => show win0_12.index t (1 : Fin 3) * 4 + 1 * (j 1).val = (j 1).val; omega
  | ⟨2, _⟩ => show win0_12.index t (2 : Fin 3) * 128 + 1 * (j 2).val = (j 2).val; omega

/-! ### The arrays the call reads, laid out from the arguments -/

theorem flatX_apply (a : FVec Ideal S24x1024x1152 .bf16) (r : Fin 24576) (k : Fin 1152) :
    shapeCast S24576x1152 a shapeCasts_S24x1024x1152_S24576x1152 (ix2 r k) = a (ix3 (Ref.batch r) (Ref.pos r) k) := by
  pointwise
  rfl

theorem flatR_apply (a : FVec Ideal S24x1024x4608 .bf16) (r : Fin 24576) (k : Fin 4608) :
    shapeCast S24576x4608 a shapeCasts_S24x1024x4608_S24576x4608 (ix2 r k) = a (ix3 (Ref.batch r) (Ref.pos r) k) := by
  pointwise
  rfl

theorem vecX_apply (a : FVec Ideal S24x1152 .bf16) (b : Fin 24) (k : Fin 1152) :
    shapeCast S24x1x1152 a shapeCasts_S24x1152_S24x1x1152 (ix3 b 0 k) = a (ix2 b k) := by
  pointwise

theorem vecY_apply (a : FVec Ideal S24x4608 .bf16) (b : Fin 24) (k : Fin 4608) :
    shapeCast S24x1x4608 a shapeCasts_S24x4608_S24x1x4608 (ix3 b 0 k) = a (ix2 b k) := by
  pointwise

theorem line_apply {φ : FTy} (a : FVec Ideal S4608 φ) (k : Fin 4608) :
    shapeCast S1x4608 a shapeCasts_S4608_S1x4608 (ix2 0 k) = a (ix1 k) := by
  pointwise

variable (m : (ℓ : Loc nD τ sig) → Buf (Elt Ideal) ℓ)

theorem entry0 (c : Dev nD) : V m c main_v0 = shapeCast S24576x1152 (m ((c : Thread nD τ).loc main_arg0)) shapeCasts_S24x1024x1152_S24576x1152 := by
  entry_read
  rfl

theorem entry1 (c : Dev nD) : V m c main_v1 = shapeCast S24x1x1152 (m ((c : Thread nD τ).loc main_arg1)) shapeCasts_S24x1152_S24x1x1152 := by
  entry_read
  rfl

theorem entry2 (c : Dev nD) : V m c main_v2 = shapeCast S24x1x1152 (m ((c : Thread nD τ).loc main_arg2)) shapeCasts_S24x1152_S24x1x1152 := by
  entry_read
  rfl

theorem entry3 (c : Dev nD) : V m c main_v3 = shapeCast S24x1x4608 (m ((c : Thread nD τ).loc main_arg3)) shapeCasts_S24x4608_S24x1x4608 := by
  entry_read
  rfl

theorem entry4 (c : Dev nD) : V m c main_v4 = shapeCast S24576x4608 (m ((c : Thread nD τ).loc main_arg4)) shapeCasts_S24x1024x4608_S24576x4608 := by
  entry_read
  rfl

theorem entry6 (c : Dev nD) : V m c main_v5 = shapeCast S1x4608 (m ((c : Thread nD τ).loc main_arg6)) shapeCasts_S4608_S1x4608 := by
  entry_read
  rfl

theorem entry7 (c : Dev nD) : V m c main_v6 = shapeCast S1x4608 (m ((c : Thread nD τ).loc main_arg7)) shapeCasts_S4608_S1x4608 := by
  entry_read
  rfl

/-! ### A point's input blocks, from the arguments -/

theorem blk0 (c : Dev nD) (t : Fin cfg0.N) (p : Fin 512) (k : Fin 1152) :
    iblk m c 0 t (ix2 p k) = m ((c : Thread nD τ).loc main_arg0) (ix3 (Ref.batch (row t p)) (Ref.pos (row t p)) k) :=
  (congrArg (V m c main_v0) (emb0 t (ix2 p k))).trans ((congrFun (entry0 m c) _).trans (flatX_apply _ (row t p) k))

theorem blk1 (c : Dev nD) (t : Fin cfg0.N) (k : Fin 1152) :
    iblk m c 1 t (ix3 0 0 k) = m ((c : Thread nD τ).loc main_arg1) (ix2 (Ref.batch (row t 0)) k) :=
  (congrArg (V m c main_v1) (emb1 t (ix3 0 0 k))).trans ((congrFun (entry1 m c) _).trans (vecX_apply _ (Ref.batch (row t 0)) k))

theorem blk2 (c : Dev nD) (t : Fin cfg0.N) (k : Fin 1152) :
    iblk m c 2 t (ix3 0 0 k) = m ((c : Thread nD τ).loc main_arg2) (ix2 (Ref.batch (row t 0)) k) :=
  (congrArg (V m c main_v2) (emb2 t (ix3 0 0 k))).trans ((congrFun (entry2 m c) _).trans (vecX_apply _ (Ref.batch (row t 0)) k))

theorem blk3 (c : Dev nD) (t : Fin cfg0.N) (k : Fin 4608) :
    iblk m c 3 t (ix3 0 0 k) = m ((c : Thread nD τ).loc main_arg3) (ix2 (Ref.batch (row t 0)) k) :=
  (congrArg (V m c main_v3) (emb3 t (ix3 0 0 k))).trans ((congrFun (entry3 m c) _).trans (vecY_apply _ (Ref.batch (row t 0)) k))

theorem blk4 (c : Dev nD) (t : Fin cfg0.N) (p : Fin 512) (k : Fin 4608) :
    iblk m c 4 t (ix2 p k) = m ((c : Thread nD τ).loc main_arg4) (ix3 (Ref.batch (row t p)) (Ref.pos (row t p)) k) :=
  (congrArg (V m c main_v4) (emb4 t (ix2 p k))).trans ((congrFun (entry4 m c) _).trans (flatR_apply _ (row t p) k))

theorem blk5 (c : Dev nD) (t : Fin cfg0.N) (k : Fin 1152) (n : Fin 4608) :
    iblk m c 5 t (ix2 k n) = m ((c : Thread nD τ).loc main_arg5) (ix2 k n) :=
  (congrArg (V m c main_arg5) (emb5 t (ix2 k n))).trans ((congrFun (V_main_arg5 m c) _).trans rfl)

theorem blk6 (c : Dev nD) (t : Fin cfg0.N) (k : Fin 4608) :
    iblk m c 6 t (ix2 0 k) = m ((c : Thread nD τ).loc main_arg6) (ix1 k) :=
  (congrArg (V m c main_v5) (emb6 t (ix2 0 k))).trans ((congrFun (entry6 m c) _).trans (line_apply (φ := .f32) _ k))

theorem blk7 (c : Dev nD) (t : Fin cfg0.N) (k : Fin 4608) :
    iblk m c 7 t (ix2 0 k) = m ((c : Thread nD τ).loc main_arg7) (ix1 k) :=
  (congrArg (V m c main_v6) (emb7 t (ix2 0 k))).trans ((congrFun (entry7 m c) _).trans (line_apply (φ := .bf16) _ k))

/-- The row's data as the point reads it, and as the reference does. -/
abbrev argRow (c : Dev nD) (r : Fin 24576) : Row.Data :=
  Ref.flatRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) r

theorem batch_eq (t : Fin cfg0.N) (p : Fin 512) : Ref.batch (row t 0) = Ref.batch (row t p) :=
  Fin.ext ((batch_row t 0).trans (batch_row t p).symm)

theorem rowAt_eq (c : Dev nD) (t : Fin cfg0.N) (p : Fin 512) :
    Block.rowAt (iblk m c 0 t) (iblk m c 1 t) (iblk m c 2 t) (iblk m c 3 t) (iblk m c 4 t) (iblk m c 5 t) (iblk m c 6 t)
      (iblk m c 7 t) p = argRow m c (row t p) := by
  have hb := batch_eq t p
  refine Row.Data.ext (funext fun k => blk0 m c t p k) (funext fun k => (blk1 m c t k).trans ?_)
    (funext fun k => (blk2 m c t k).trans ?_) (funext fun n => (blk3 m c t n).trans ?_) (funext fun n => blk4 m c t p n)
    (funext fun k => funext fun n => blk5 m c t k n) (funext fun n => blk6 m c t n) (funext fun n => blk7 m c t n) <;>
  rw [hb] <;> rfl

end Cert.Blocks

end
-- ==== Proof.Arrays.lean ====
/-
  The kernel's five result arrays after the run are the reference's, of the same arguments: what each point writes back
  is its block of the reference's array, and the 48 blocks fill the array.
-/
module

public import proofs.«01_k».proof.Proof.Blocks

@[expose] public section

set_option maxRecDepth 16384

noncomputable section

open Idealize.ShloMosaic Idealize.ShloMosaic.TcCoe Cert.KernelIdeal Cert.KernelIdeal.Gen
open Idealize.ShloMosaic.Pipeline (Dat)

namespace Cert.Arrays

open Cert.Blocks

variable (m : (ℓ : Loc nD τ sig) → Buf (Elt Ideal) ℓ)

/-- The row of a tile's entry, in the block and in the array. -/
theorem tileRow_eq (t : Fin cfg0.N) (j : S1x4x128.Idx) :
    Ref.tileRow (ix3 (n0 := 48) (n1 := 4) (n2 := 128) t (j 1) (j 2)) = row t (Block.lineRow j) := by
  apply Fin.ext
  show 512 * t.val + 128 * (j 1).val + (j 2).val = 512 * t.val + (128 * (j 1).val + (j 2).val)
  omega

/-! What a block holds at an index is a field of its row's data. -/

variable (x0 : Vec Ideal S512x1152 .bf16) (x1 x2 : Vec Ideal S1x1x1152 .bf16) (x3 : Vec Ideal S1x1x4608 .bf16)
  (x4 : Vec Ideal S512x4608 .bf16) (x5 : Vec Ideal S1152x4608 .fp8e4m3) (x6 : Vec Ideal S1x4608 .f32)
  (x7 : Vec Ideal S1x4608 .bf16)

theorem hCodeAt_eq (y : S512x1152.Idx) :
    Block.hCodeAt x0 x1 x2 y = (Block.rowAt x0 x1 x2 x3 x4 x5 x6 x7 (y 0)).hCode (y 1) := rfl
theorem hTileAt_eq (y : S1x4x128.Idx) :
    Block.hTileAt x0 x1 x2 y = (Block.rowAt x0 x1 x2 x3 x4 x5 x6 x7 (Block.lineRow y)).hScale := rfl
theorem yCodeAt_eq (y : S512x4608.Idx) :
    Block.yCodeAt x0 x1 x2 x3 x4 x5 x6 x7 y = (Block.rowAt x0 x1 x2 x3 x4 x5 x6 x7 (y 0)).yCode (y 1) := rfl
theorem yTileAt_eq (y : S1x4x128.Idx) :
    Block.yTileAt x0 x1 x2 x3 x4 x5 x6 x7 y = (Block.rowAt x0 x1 x2 x3 x4 x5 x6 x7 (Block.lineRow y)).yScale := rfl

/-- The point whose block holds a row. -/
abbrev point (r : ℕ) (h : r < 24576) : Fin cfg0.N := ⟨r / 512, by show r / 512 < 48; omega⟩

/-! ### Result 1 -/

/-- The reference's array, of the kernel's arguments. -/
abbrev want8 (c : Dev nD) : FVec Ideal S24576x4608 .bf16 :=
  Cert.ReferenceIdeal.Value.G8 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7))

/-- An entry of the block, in the array. -/
theorem read8 (t : Fin cfg0.N) (A : FVec Ideal S24576x4608 .bf16) (j : S512x4608.Idx) :
    ((cfg0.win 8).blk t).view.read (Elt Ideal) A j = A (ix2 (n0 := 24576) (n1 := 4608) (row t (j 0)) (j 1)) :=
  congrArg A (emb8 t j)

/-- What a point writes back is its block of the reference's array. -/
theorem flushed8 (c : Dev nD) (t : Fin cfg0.N) :
    (dats m 0 c).flushed 8 t = ((cfg0.win 8).blk t).view.read (Elt Ideal) (want8 m c) := by
  rw [Value.flushed8_A]
  funext j
  refine (Block.out8_apply _ _ _ _ _ _ _ _ _ _ _ _ _ _ _ _ _ _ _ _ _ _ _ _ _ _ _ _ _ _ _ _ _ _ _ _ _ _ j).trans ?_
  refine Eq.trans ?_ (read8 t (want8 m c) j).symm
  refine Eq.trans ?_ (Ref.g8_apply _ _ _ _ _ _ _ _ _).symm
  exact congrArg (fun d : Row.Data => d.y (j 1)) (rowAt_eq m c t (j 0))

/-- Every index lies in the block of some point. -/
theorem cover8 (i : S24576x4608.Idx) : ∃ t : Fin cfg0.N, (cfg0.win 8).flush t = true ∧ i ∈ ((cfg0.win 8).blk t).view.set := by
  have h0 : (i 0).val < 24576 := (i 0).isLt
  refine ⟨point (i 0).val h0, flush0_8 _, ?_⟩
  have h := ((cfg0.win 8).blk (point (i 0).val h0)).view.emb_mem_set
    (ix2 (n0 := 512) (n1 := 4608) ⟨(i 0).val % 512, by omega⟩ (i 1))
  have e := emb8 (point (i 0).val h0) (ix2 (n0 := 512) (n1 := 4608) ⟨(i 0).val % 512, by omega⟩ (i 1))
  have e' : ix2 (n0 := 24576) (n1 := 4608) (row (point (i 0).val h0) ⟨(i 0).val % 512, by omega⟩) (i 1) = i := by
    refine (congrArg (fun r => ix2 (n0 := 24576) (n1 := 4608) r (i 1)) (Fin.ext ?_)).trans (ix2_eta i)
    show 512 * ((i 0).val / 512) + (i 0).val % 512 = (i 0).val
    omega
  exact Eq.mp (congrArg (fun x : S24576x4608.Idx => x ∈ ((cfg0.win 8).blk (point (i 0).val h0)).view.set) (e.trans e')) h

/-- The array after the run is the reference's. -/
theorem final8 (c : Dev nD) : (dats m 0 c).arrAt 8 cfg0.N = want8 m c :=
  (dats m 0 c).arrAt_eq_of_cover 8 (want8 m c) (fun t _ => flushed8 m c t) cover8

/-! ### Result 2 -/

/-- The reference's array, of the kernel's arguments. -/
abbrev want9 (c : Dev nD) : FVec Ideal S24576x1152 .fp8e4m3 :=
  Cert.ReferenceIdeal.Value.G9 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7))

/-- An entry of the block, in the array. -/
theorem read9 (t : Fin cfg0.N) (A : FVec Ideal S24576x1152 .fp8e4m3) (j : S512x1152.Idx) :
    ((cfg0.win 9).blk t).view.read (Elt Ideal) A j = A (ix2 (n0 := 24576) (n1 := 1152) (row t (j 0)) (j 1)) :=
  congrArg A (emb9 t j)

/-- What a point writes back is its block of the reference's array. -/
theorem flushed9 (c : Dev nD) (t : Fin cfg0.N) :
    (dats m 0 c).flushed 9 t = ((cfg0.win 9).blk t).view.read (Elt Ideal) (want9 m c) := by
  rw [Value.flushed9_A]
  funext j
  refine (Block.out9_apply _ _ _ _ _ _ _ _ _ _ _ _ _ _ _ _ _ _ _ _ _ _ _ _ _ _ _ _ _ _ _ _ _ _ _ _ _ _ j).trans ?_
  refine (hCodeAt_eq (iblk m c 0 t) (iblk m c 1 t) (iblk m c 2 t) (iblk m c 3 t) (iblk m c 4 t) (iblk m c 5 t) (iblk m c 6 t)
    (iblk m c 7 t) j).trans ?_
  refine Eq.trans ?_ (read9 t (want9 m c) j).symm
  refine Eq.trans ?_ (Ref.g9_apply _ _ _ _ _ _ _ _ _).symm
  exact congrArg (fun d : Row.Data => d.hCode (j 1)) (rowAt_eq m c t (j 0))

/-- Every index lies in the block of some point. -/
theorem cover9 (i : S24576x1152.Idx) : ∃ t : Fin cfg0.N, (cfg0.win 9).flush t = true ∧ i ∈ ((cfg0.win 9).blk t).view.set := by
  have h0 : (i 0).val < 24576 := (i 0).isLt
  refine ⟨point (i 0).val h0, flush0_9 _, ?_⟩
  have h := ((cfg0.win 9).blk (point (i 0).val h0)).view.emb_mem_set
    (ix2 (n0 := 512) (n1 := 1152) ⟨(i 0).val % 512, by omega⟩ (i 1))
  have e := emb9 (point (i 0).val h0) (ix2 (n0 := 512) (n1 := 1152) ⟨(i 0).val % 512, by omega⟩ (i 1))
  have e' : ix2 (n0 := 24576) (n1 := 1152) (row (point (i 0).val h0) ⟨(i 0).val % 512, by omega⟩) (i 1) = i := by
    refine (congrArg (fun r => ix2 (n0 := 24576) (n1 := 1152) r (i 1)) (Fin.ext ?_)).trans (ix2_eta i)
    show 512 * ((i 0).val / 512) + (i 0).val % 512 = (i 0).val
    omega
  exact Eq.mp (congrArg (fun x : S24576x1152.Idx => x ∈ ((cfg0.win 9).blk (point (i 0).val h0)).view.set) (e.trans e')) h

/-- The array after the run is the reference's. -/
theorem final9 (c : Dev nD) : (dats m 0 c).arrAt 9 cfg0.N = want9 m c :=
  (dats m 0 c).arrAt_eq_of_cover 9 (want9 m c) (fun t _ => flushed9 m c t) cover9

/-! ### Result 3 -/

/-- The reference's array, of the kernel's arguments. -/
abbrev want10 (c : Dev nD) : FVec Ideal S48x4x128 .f32 :=
  Cert.ReferenceIdeal.Value.G10 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7))

/-- An entry of the block, in the array. -/
theorem read10 (t : Fin cfg0.N) (A : FVec Ideal S48x4x128 .f32) (j : S1x4x128.Idx) :
    ((cfg0.win 10).blk t).view.read (Elt Ideal) A j = A (ix3 (n0 := 48) (n1 := 4) (n2 := 128) t (j 1) (j 2)) :=
  congrArg A (emb10 t j)

/-- What a point writes back is its block of the reference's array. -/
theorem flushed10 (c : Dev nD) (t : Fin cfg0.N) :
    (dats m 0 c).flushed 10 t = ((cfg0.win 10).blk t).view.read (Elt Ideal) (want10 m c) := by
  rw [Value.flushed10_A]
  funext j
  refine (Block.out10_apply _ _ _ _ _ _ _ _ _ _ _ _ _ _ _ _ _ _ _ _ _ _ _ _ _ _ _ _ _ _ _ _ _ _ _ _ _ _ j).trans ?_
  refine (hTileAt_eq (iblk m c 0 t) (iblk m c 1 t) (iblk m c 2 t) (iblk m c 3 t) (iblk m c 4 t) (iblk m c 5 t) (iblk m c 6 t)
    (iblk m c 7 t) j).trans ?_
  refine Eq.trans ?_ (read10 t (want10 m c) j).symm
  refine Eq.trans ?_ (Ref.g10_apply _ _ _ _ _ _ _ _ _).symm
  exact congrArg (fun d : Row.Data => d.hScale) ((rowAt_eq m c t (Block.lineRow j)).trans (congrArg (argRow m c) (tileRow_eq t j).symm))

/-- Every index lies in the block of some point. -/
theorem cover10 (i : S48x4x128.Idx) : ∃ t : Fin cfg0.N, (cfg0.win 10).flush t = true ∧ i ∈ ((cfg0.win 10).blk t).view.set := by
  have h0 : (i 0).val < 48 := (i 0).isLt
  refine ⟨⟨(i 0).val, h0⟩, flush0_10 _, ?_⟩
  have h := ((cfg0.win 10).blk ⟨(i 0).val, h0⟩).view.emb_mem_set (ix3 (n0 := 1) (n1 := 4) (n2 := 128) 0 (i 1) (i 2))
  have e := emb10 ⟨(i 0).val, h0⟩ (ix3 (n0 := 1) (n1 := 4) (n2 := 128) 0 (i 1) (i 2))
  exact Eq.mp (congrArg (fun x : S48x4x128.Idx => x ∈ ((cfg0.win 10).blk ⟨(i 0).val, h0⟩).view.set) (e.trans (ix3_eta i))) h

/-- The array after the run is the reference's. -/
theorem final10 (c : Dev nD) : (dats m 0 c).arrAt 10 cfg0.N = want10 m c :=
  (dats m 0 c).arrAt_eq_of_cover 10 (want10 m c) (fun t _ => flushed10 m c t) cover10

/-! ### Result 4 -/

/-- The reference's array, of the kernel's arguments. -/
abbrev want11 (c : Dev nD) : FVec Ideal S24576x4608 .fp8e4m3 :=
  Cert.ReferenceIdeal.Value.G11 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7))

/-- An entry of the block, in the array. -/
theorem read11 (t : Fin cfg0.N) (A : FVec Ideal S24576x4608 .fp8e4m3) (j : S512x4608.Idx) :
    ((cfg0.win 11).blk t).view.read (Elt Ideal) A j = A (ix2 (n0 := 24576) (n1 := 4608) (row t (j 0)) (j 1)) :=
  congrArg A (emb11 t j)

/-- What a point writes back is its block of the reference's array. -/
theorem flushed11 (c : Dev nD) (t : Fin cfg0.N) :
    (dats m 0 c).flushed 11 t = ((cfg0.win 11).blk t).view.read (Elt Ideal) (want11 m c) := by
  rw [Value.flushed11_A]
  funext j
  refine (Block.out11_apply _ _ _ _ _ _ _ _ _ _ _ _ _ _ _ _ _ _ _ _ _ _ _ _ _ _ _ _ _ _ _ _ _ _ _ _ _ _ j).trans ?_
  refine (yCodeAt_eq (iblk m c 0 t) (iblk m c 1 t) (iblk m c 2 t) (iblk m c 3 t) (iblk m c 4 t) (iblk m c 5 t) (iblk m c 6 t)
    (iblk m c 7 t) j).trans ?_
  refine Eq.trans ?_ (read11 t (want11 m c) j).symm
  refine Eq.trans ?_ (Ref.g11_apply _ _ _ _ _ _ _ _ _).symm
  exact congrArg (fun d : Row.Data => d.yCode (j 1)) (rowAt_eq m c t (j 0))

/-- Every index lies in the block of some point. -/
theorem cover11 (i : S24576x4608.Idx) : ∃ t : Fin cfg0.N, (cfg0.win 11).flush t = true ∧ i ∈ ((cfg0.win 11).blk t).view.set := by
  have h0 : (i 0).val < 24576 := (i 0).isLt
  refine ⟨point (i 0).val h0, flush0_11 _, ?_⟩
  have h := ((cfg0.win 11).blk (point (i 0).val h0)).view.emb_mem_set
    (ix2 (n0 := 512) (n1 := 4608) ⟨(i 0).val % 512, by omega⟩ (i 1))
  have e := emb11 (point (i 0).val h0) (ix2 (n0 := 512) (n1 := 4608) ⟨(i 0).val % 512, by omega⟩ (i 1))
  have e' : ix2 (n0 := 24576) (n1 := 4608) (row (point (i 0).val h0) ⟨(i 0).val % 512, by omega⟩) (i 1) = i := by
    refine (congrArg (fun r => ix2 (n0 := 24576) (n1 := 4608) r (i 1)) (Fin.ext ?_)).trans (ix2_eta i)
    show 512 * ((i 0).val / 512) + (i 0).val % 512 = (i 0).val
    omega
  exact Eq.mp (congrArg (fun x : S24576x4608.Idx => x ∈ ((cfg0.win 11).blk (point (i 0).val h0)).view.set) (e.trans e')) h

/-- The array after the run is the reference's. -/
theorem final11 (c : Dev nD) : (dats m 0 c).arrAt 11 cfg0.N = want11 m c :=
  (dats m 0 c).arrAt_eq_of_cover 11 (want11 m c) (fun t _ => flushed11 m c t) cover11

/-! ### Result 5 -/

/-- The reference's array, of the kernel's arguments. -/
abbrev want12 (c : Dev nD) : FVec Ideal S48x4x128 .f32 :=
  Cert.ReferenceIdeal.Value.G12 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7))

/-- An entry of the block, in the array. -/
theorem read12 (t : Fin cfg0.N) (A : FVec Ideal S48x4x128 .f32) (j : S1x4x128.Idx) :
    ((cfg0.win 12).blk t).view.read (Elt Ideal) A j = A (ix3 (n0 := 48) (n1 := 4) (n2 := 128) t (j 1) (j 2)) :=
  congrArg A (emb12 t j)

/-- What a point writes back is its block of the reference's array. -/
theorem flushed12 (c : Dev nD) (t : Fin cfg0.N) :
    (dats m 0 c).flushed 12 t = ((cfg0.win 12).blk t).view.read (Elt Ideal) (want12 m c) := by
  rw [Value.flushed12_A]
  funext j
  refine (Block.out12_apply _ _ _ _ _ _ _ _ _ _ _ _ _ _ _ _ _ _ _ _ _ _ _ _ _ _ _ _ _ _ _ _ _ _ _ _ _ _ j).trans ?_
  refine (yTileAt_eq (iblk m c 0 t) (iblk m c 1 t) (iblk m c 2 t) (iblk m c 3 t) (iblk m c 4 t) (iblk m c 5 t) (iblk m c 6 t)
    (iblk m c 7 t) j).trans ?_
  refine Eq.trans ?_ (read12 t (want12 m c) j).symm
  refine Eq.trans ?_ (Ref.g12_apply _ _ _ _ _ _ _ _ _).symm
  exact congrArg (fun d : Row.Data => d.yScale) ((rowAt_eq m c t (Block.lineRow j)).trans (congrArg (argRow m c) (tileRow_eq t j).symm))

/-- Every index lies in the block of some point. -/
theorem cover12 (i : S48x4x128.Idx) : ∃ t : Fin cfg0.N, (cfg0.win 12).flush t = true ∧ i ∈ ((cfg0.win 12).blk t).view.set := by
  have h0 : (i 0).val < 48 := (i 0).isLt
  refine ⟨⟨(i 0).val, h0⟩, flush0_12 _, ?_⟩
  have h := ((cfg0.win 12).blk ⟨(i 0).val, h0⟩).view.emb_mem_set (ix3 (n0 := 1) (n1 := 4) (n2 := 128) 0 (i 1) (i 2))
  have e := emb12 ⟨(i 0).val, h0⟩ (ix3 (n0 := 1) (n1 := 4) (n2 := 128) 0 (i 1) (i 2))
  exact Eq.mp (congrArg (fun x : S48x4x128.Idx => x ∈ ((cfg0.win 12).blk ⟨(i 0).val, h0⟩).view.set) (e.trans (ix3_eta i))) h

/-- The array after the run is the reference's. -/
theorem final12 (c : Dev nD) : (dats m 0 c).arrAt 12 cfg0.N = want12 m c :=
  (dats m 0 c).arrAt_eq_of_cover 12 (want12 m c) (fun t _ => flushed12 m c t) cover12

end Cert.Arrays

end
-- ==== Proof.lean ====
/-
  The certificate: the frames of the three programs and the named constant are the generated proofs; the equation of the
  kernel and the reference is `algebraic`, from the arrays of Proof/Arrays.lean.
-/
module

public import proofs.«01_k».proof.Defs
public import proofs.«01_k».proof.Proof.Gen.Kernel.Frame
public import proofs.«01_k».proof.Proof.Gen.KernelIdeal.Value
public import proofs.«01_k».proof.Proof.Gen.ReferenceIdeal.Value
public import proofs.«01_k».proof.Proof.Arrays

@[expose] public section

open Idealize.ShloMosaic Idealize.ShloMosaic.TcCoe Idealize.SL.Sem

namespace Cert.Proof

/-- What a function of eight arguments makes of equal arguments. -/
theorem congr8 {A0 A1 A2 A3 A4 A5 A6 A7 B : Type} (f : A0 → A1 → A2 → A3 → A4 → A5 → A6 → A7 → B)
    {a0 b0 : A0} {a1 b1 : A1} {a2 b2 : A2} {a3 b3 : A3} {a4 b4 : A4} {a5 b5 : A5} {a6 b6 : A6} {a7 b7 : A7}
    (h : a0 = b0 ∧ a1 = b1 ∧ a2 = b2 ∧ a3 = b3 ∧ a4 = b4 ∧ a5 = b5 ∧ a6 = b6 ∧ a7 = b7) :
    f a0 a1 a2 a3 a4 a5 a6 a7 = f b0 b1 b2 b3 b4 b5 b6 b7 := by
  obtain ⟨rfl, rfl, rfl, rfl, rfl, rfl, rfl, rfl⟩ := h
  rfl

/-- Run on the same arguments, the kernel and the reference end with the same five results, each argument kept. -/
theorem algebraic : Cert.algebraic_KernelIdeal_ReferenceIdeal
    (hKernelIdeal := Cert.KernelIdeal.Gen.facts) (hReferenceIdeal := Cert.ReferenceIdeal.Gen.facts) := by
  intro m ρ m' ρ' _ hagree
  refine ⟨fun c => Arrays.want8 m c, fun c => Arrays.want9 m c, fun c => Arrays.want10 m c, fun c => Arrays.want11 m c,
    fun c => Arrays.want12 m c, ?_, ?_⟩
  · refine (θ_run Cert.KernelIdeal.defs _ _).mono (fun _ h c => ?_) (Cert.KernelIdeal.Value.run_blocks (F := Ideal) m ρ)
    obtain ⟨h8, h9, h10, h11, h12, hargs⟩ := h c
    exact ⟨h8.trans (Arrays.final8 m c), h9.trans (Arrays.final9 m c), h10.trans (Arrays.final10 m c),
      h11.trans (Arrays.final11 m c), h12.trans (Arrays.final12 m c), hargs⟩
  · refine (θ_run Cert.ReferenceIdeal.defs _ _).mono (fun _ h c => ?_) (Cert.ReferenceIdeal.Value.run (F := Ideal) m' ρ')
    obtain ⟨h8, h9, h10, h11, h12, hargs⟩ := h c
    exact ⟨h8.trans (congr8 (Cert.ReferenceIdeal.Value.G8 (F := Ideal)) (hagree c)),
      h9.trans (congr8 (Cert.ReferenceIdeal.Value.G9 (F := Ideal)) (hagree c)),
      h10.trans (congr8 (Cert.ReferenceIdeal.Value.G10 (F := Ideal)) (hagree c)),
      h11.trans (congr8 (Cert.ReferenceIdeal.Value.G11 (F := Ideal)) (hagree c)),
      h12.trans (congr8 (Cert.ReferenceIdeal.Value.G12 (F := Ideal)) (hagree c)), hargs⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ,
    IdealRules.named_const.statement Cert.KernelIdeal.κ "inv_d_model" .f32 0x3A638E39#32 ((1152⁻¹ : ℝ) : EReal) rfl,
    algebraic⟩

end Cert.Proof
